-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "edge1" .f32 0x3D888889#32 ((1 / 15 : ℝ) : EReal)
  ∧ IdealRules.named_const.Statement Cert.KernelIdeal.κ "edge2" .f32 0x3E088889#32 ((2 / 15 : ℝ) : EReal)
  ∧ IdealRules.named_const.Statement Cert.KernelIdeal.κ "edge3" .f32 0x3E4CCCCD#32 ((1 / 5 : ℝ) : EReal)
  ∧ IdealRules.named_const.Statement Cert.KernelIdeal.κ "edge4" .f32 0x3E888889#32 ((4 / 15 : ℝ) : EReal)
  ∧ IdealRules.named_const.Statement Cert.KernelIdeal.κ "edge5" .f32 0x3EAAAAAB#32 ((1 / 3 : ℝ) : EReal)
  ∧ IdealRules.named_const.Statement Cert.KernelIdeal.κ "edge6" .f32 0x3ECCCCCD#32 ((2 / 5 : ℝ) : EReal)
  ∧ IdealRules.named_const.Statement Cert.KernelIdeal.κ "edge7" .f32 0x3EEEEEEF#32 ((7 / 15 : ℝ) : EReal)
  ∧ IdealRules.named_const.Statement Cert.KernelIdeal.κ "edge8" .f32 0x3F088889#32 ((8 / 15 : ℝ) : EReal)
  ∧ IdealRules.named_const.Statement Cert.KernelIdeal.κ "edge9" .f32 0x3F19999A#32 ((3 / 5 : ℝ) : EReal)
  ∧ IdealRules.named_const.Statement Cert.KernelIdeal.κ "edge10" .f32 0x3F2AAAAB#32 ((2 / 3 : ℝ) : EReal)
  ∧ IdealRules.named_const.Statement Cert.KernelIdeal.κ "edge11" .f32 0x3F3BBBBC#32 ((11 / 15 : ℝ) : EReal)
  ∧ IdealRules.named_const.Statement Cert.KernelIdeal.κ "edge12" .f32 0x3F4CCCCD#32 ((4 / 5 : ℝ) : EReal)
  ∧ IdealRules.named_const.Statement Cert.KernelIdeal.κ "edge13" .f32 0x3F5DDDDE#32 ((13 / 15 : ℝ) : EReal)
  ∧ IdealRules.named_const.Statement Cert.KernelIdeal.κ "edge14" .f32 0x3F6EEEEF#32 ((14 / 15 : ℝ) : EReal)
  ∧ IdealRules.named_const.Statement Cert.KernelIdeal.κ "inv_n" .f32 0x358637BD#32 ((1 / 1000000 : ℝ) : EReal)

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S1000000x100 : Shape := ⟨2, ![1000000, 100]⟩
abbrev S1000000 : Shape := ⟨1, ![1000000]⟩
abbrev S_ : Shape := ⟨0, ![]⟩

class Facts : Prop where
  reducesTo_S1000000x100_S1000000_d1 : S1000000x100.ReducesTo [1] S1000000
  h_S_ : 0 < S_.numel
  bcast_S_S1000000 : S_.BroadcastsInDim S1000000 (![] : Fin 0 → Fin S1000000.rank)

variable [Facts]

def fn {F : FTy → Type} [FloatOps F] (main_arg0 : FVec F S1000000x100 .f32) (main_arg1 : IVec S1000000 32) : IVec S1000000 1 :=
  let main_cst : FVec F S_ .f32 := constant S_ .f32 0xFF800000#32
  let main_v0 : FVec F S1000000 .f32 := (fun x v => Host.reduce FloatOps.maximumf x v reducesTo_S1000000x100_S1000000_d1 h_S_) main_arg0 main_cst
  let main_v1 : FVec F S1000000 .f32 := Host.absf main_v0
  let main_cst_0 : FVec F S_ .f32 := constant S_ .f32 0x7F800000#32
  let main_v2 : FVec F S1000000 .f32 := broadcastInDim S1000000 ![] bcast_S_S1000000 main_cst_0
  let main_v3 : IVec S1000000 1 := cmpf .olt main_v1 main_v2
  main_v3
-- ==== Kernel.lean ====
abbrev S1000000x100 : Shape := ⟨2, ![1000000, 100]⟩
abbrev S1000000 : Shape := ⟨1, ![1000000]⟩
abbrev S_ : Shape := ⟨0, ![]⟩
abbrev S1015808 : Shape := ⟨1, ![1015808]⟩
abbrev S62x1x16384 : Shape := ⟨3, ![62, 1, 16384]⟩
abbrev S62x48x128 : Shape := ⟨3, ![62, 48, 128]⟩
abbrev S16384x100 : Shape := ⟨2, ![16384, 100]⟩
abbrev S1x1x16384 : Shape := ⟨3, ![1, 1, 16384]⟩
abbrev S1x48x128 : Shape := ⟨3, ![1, 48, 128]⟩
abbrev S100x16384 : Shape := ⟨2, ![100, 16384]⟩
abbrev S16384 : Shape := ⟨1, ![16384]⟩
abbrev S1x16384 : Shape := ⟨2, ![1, 16384]⟩
abbrev S128x128 : Shape := ⟨2, ![128, 128]⟩
abbrev S128 : Shape := ⟨1, ![128]⟩
abbrev S1x128 : Shape := ⟨2, ![1, 128]⟩
abbrev S48x128 : Shape := ⟨2, ![48, 128]⟩
abbrev S48 : Shape := ⟨1, ![48]⟩
abbrev S48x1 : Shape := ⟨2, ![48, 1]⟩
abbrev S15x1 : Shape := ⟨2, ![15, 1]⟩
abbrev S1 : Shape := ⟨1, ![1]⟩
abbrev S1x1 : Shape := ⟨2, ![1, 1]⟩

abbrev nBuf : Space → Nat
  | .hbm => 10
  | .vmem => 8
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S_, .i32⟩
  | .hbm, ⟨3, _⟩ => ⟨S_, .i32⟩
  | .hbm, ⟨4, _⟩ => ⟨S1015808, .i32⟩
  | .hbm, ⟨5, _⟩ => ⟨S62x1x16384, .i32⟩
  | .hbm, ⟨6, _⟩ => ⟨S62x48x128, .f32⟩
  | .hbm, ⟨7, _⟩ => ⟨S1x128, .f32⟩
  | .hbm, ⟨8, _⟩ => ⟨S1x1, .f32⟩
  | .hbm, ⟨9, _⟩ => ⟨S1, .f32⟩
  | .local _ .vmem, ⟨0, _⟩ => ⟨S16384x100, .f32⟩
  | .local _ .vmem, ⟨1, _⟩ => ⟨S16384x100, .f32⟩
  | .local _ .vmem, ⟨2, _⟩ => ⟨S1x1x16384, .i32⟩
  | .local _ .vmem, ⟨3, _⟩ => ⟨S1x1x16384, .i32⟩
  | .local _ .vmem, ⟨4, _⟩ => ⟨S1x48x128, .f32⟩
  | .local _ .vmem, ⟨5, _⟩ => ⟨S1x48x128, .f32⟩
  | .local _ .vmem, ⟨6, _⟩ => ⟨S62x48x128, .f32⟩
  | .local _ .vmem, ⟨7, _⟩ => ⟨S1x128, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![62], ![false]⟩

def k0_cond1 (i : grid0.Coords) : BitVec 1 :=
  let arg0 : BitVec 32 := BitVec.ofNat 32 (i 0).val
  let c61_i32 : BitVec 32 := 61#32
  let v25 : BitVec 1 := Scalar.cmpi .slt arg0 c61_i32
  let v26 : BitVec 32 := Scalar.extui v25
  let c0_i32 : BitVec 32 := 0#32
  let v27 : BitVec 1 := Scalar.cmpi .ne v26 c0_i32
  v27

def k0_cond2 (i : grid0.Coords) : BitVec 1 :=
  let arg0 : BitVec 32 := BitVec.ofNat 32 (i 0).val
  let c61_i32_7 : BitVec 32 := 61#32
  let v28 : BitVec 1 := Scalar.cmpi .eq arg0 c61_i32_7
  let v29 : BitVec 32 := Scalar.extui v28
  let c0_i32_8 : BitVec 32 := 0#32
  let v30 : BitVec 1 := Scalar.cmpi .ne v29 c0_i32_8
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x48x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S62x48x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]
-- ==== KernelIdeal.lean ====
variable {F : FTy → Type} [FloatOps F] [Named F]
def κ : String → Option EReal := fun
  | "edge1" => some ((1 / 15 : ℝ) : EReal)
  | "edge10" => some ((2 / 3 : ℝ) : EReal)
  | "edge11" => some ((11 / 15 : ℝ) : EReal)
  | "edge12" => some ((4 / 5 : ℝ) : EReal)
  | "edge13" => some ((13 / 15 : ℝ) : EReal)
  | "edge14" => some ((14 / 15 : ℝ) : EReal)
  | "edge2" => some ((2 / 15 : ℝ) : EReal)
  | "edge3" => some ((1 / 5 : ℝ) : EReal)
  | "edge4" => some ((4 / 15 : ℝ) : EReal)
  | "edge5" => some ((1 / 3 : ℝ) : EReal)
  | "edge6" => some ((2 / 5 : ℝ) : EReal)
  | "edge7" => some ((7 / 15 : ℝ) : EReal)
  | "edge8" => some ((8 / 15 : ℝ) : EReal)
  | "edge9" => some ((3 / 5 : ℝ) : EReal)
  | "inv_n" => some ((1 / 1000000 : ℝ) : EReal)
  | _ => none
-- ==== ReferenceIdeal.lean ====
abbrev S1000000x100 : Shape := ⟨2, ![1000000, 100]⟩
abbrev S1000000 : Shape := ⟨1, ![1000000]⟩
abbrev S_ : Shape := ⟨0, ![]⟩
abbrev S15 : Shape := ⟨1, ![15]⟩
abbrev S1 : Shape := ⟨1, ![1]⟩
abbrev S16 : Shape := ⟨1, ![16]⟩
abbrev S1000000x1 : Shape := ⟨2, ![1000000, 1]⟩
abbrev S1x1000000 : Shape := ⟨2, ![1, 1000000]⟩
abbrev S15x1 : Shape := ⟨2, ![15, 1]⟩
abbrev S15x1000000 : Shape := ⟨2, ![15, 1000000]⟩

abbrev nBuf : Space → Nat
  | .hbm => 95
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S15, .f32⟩
  | .hbm, ⟨10, _⟩ => ⟨S_, .f32⟩
  | .hbm, ⟨11, _⟩ => ⟨S15, .f32⟩
  | .hbm, ⟨12, _⟩ => ⟨S15, .f32⟩
  | .hbm, ⟨13, _⟩ => ⟨S1, .f32⟩
  | .hbm, ⟨14, _⟩ => ⟨S_, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S15, .f32⟩
  | .hbm, ⟨19, _⟩ => ⟨S1, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S16, .f32⟩
  | .hbm, ⟨25, _⟩ => ⟨S15, .f32⟩
  | .hbm, ⟨26, _⟩ => ⟨S15, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S1000000, .f32⟩
  | .hbm, ⟨31, _⟩ => ⟨S1000000, .f32⟩
  | .hbm, ⟨32, _⟩ => ⟨S1000000x1, .f32⟩
  | .hbm, ⟨33, _⟩ => ⟨S1000000x100, .f32⟩
  | .hbm, ⟨34, _⟩ => ⟨S1000000x100, .f32⟩
  | .hbm, ⟨35, _⟩ => ⟨S1000000x100, .f32⟩
  | .hbm, ⟨36, _⟩ => ⟨S_, .f32⟩
  | .hbm, ⟨37, _⟩ => ⟨S1000000, .f32⟩
  | .hbm, ⟨38, _⟩ => ⟨S1000000x1, .f32⟩
  | .hbm, ⟨39, _⟩ => ⟨S1000000x100, .f32⟩
  | .hbm, ⟨40, _⟩ => ⟨S1000000x100, .f32⟩
  | .hbm, ⟨41, _⟩ => ⟨S_, .f32⟩
  | .hbm, ⟨42, _⟩ => ⟨S1000000, .f32⟩
  | .hbm, ⟨43, _⟩ => ⟨S1000000x100, .i32⟩
  | .hbm, ⟨44, _⟩ => ⟨S_, .f32⟩
  | .hbm, ⟨45, _⟩ => ⟨S_, .i32⟩
  | .hbm, ⟨46, _⟩ => ⟨S1000000, .f32⟩
  | .hbm, ⟨47, _⟩ => ⟨S1000000, .i32⟩
  | .hbm, ⟨48, _⟩ => ⟨S1000000, .i1⟩
  | .hbm, ⟨49, _⟩ => ⟨S1000000, .f32⟩
  | .hbm, ⟨50, _⟩ => ⟨S1x1000000, .f32⟩
  | .hbm, ⟨51, _⟩ => ⟨S15x1, .f32⟩
  | .hbm, ⟨52, _⟩ => ⟨S15x1000000, .f32⟩
  | .hbm, ⟨53, _⟩ => ⟨S15x1000000, .f32⟩
  | .hbm, ⟨54, _⟩ => ⟨S15x1000000, .i1⟩
  | .hbm, ⟨55, _⟩ => ⟨S1x1000000, .f32⟩
  | .hbm, ⟨56, _⟩ => ⟨S15x1, .f32⟩
  | .hbm, ⟨57, _⟩ => ⟨S15x1000000, .f32⟩
  | .hbm, ⟨58, _⟩ => ⟨S15x1000000, .f32⟩
  | .hbm, ⟨59, _⟩ => ⟨S15x1000000, .i1⟩
  | .hbm, ⟨60, _⟩ => ⟨S15x1000000, .i1⟩
  | .hbm, ⟨61, _⟩ => ⟨S15x1000000, .f32⟩
  | .hbm, ⟨62, _⟩ => ⟨S_, .f32⟩
  | .hbm, ⟨63, _⟩ => ⟨S15, .f32⟩
  | .hbm, ⟨64, _⟩ => ⟨S_, .f32⟩
  | .hbm, ⟨65, _⟩ => ⟨S15, .f32⟩
  | .hbm, ⟨66, _⟩ => ⟨S15, .f32⟩
  | .hbm, ⟨67, _⟩ => ⟨S_, .f32⟩
  | .hbm, ⟨68, _⟩ => ⟨S15, .f32⟩
  | .hbm, ⟨69, _⟩ => ⟨S15, .f32⟩
  | .hbm, ⟨70, _⟩ => ⟨S1x1000000, .f32⟩
  | .hbm, ⟨71, _⟩ => ⟨S15x1000000, .f32⟩
  | .hbm, ⟨72, _⟩ => ⟨S15x1000000, .f32⟩
  | .hbm, ⟨73, _⟩ => ⟨S_, .f32⟩
  | .hbm, ⟨74, _⟩ => ⟨S15, .f32⟩
  | .hbm, ⟨75, _⟩ => ⟨S15, .f32⟩
  | .hbm, ⟨76, _⟩ => ⟨S1x1000000, .f32⟩
  | .hbm, ⟨77, _⟩ => ⟨S15x1000000, .f32⟩
  | .hbm, ⟨78, _⟩ => ⟨S15x1000000, .f32⟩
  | .hbm, ⟨79, _⟩ => ⟨S_, .f32⟩
  | .hbm, ⟨80, _⟩ => ⟨S15, .f32⟩
  | .hbm, ⟨81, _⟩ => ⟨S15, .f32⟩
  | .hbm, ⟨82, _⟩ => ⟨S_, .f32⟩
  | .hbm, ⟨83, _⟩ => ⟨S15, .f32⟩
  | .hbm, ⟨84, _⟩ => ⟨S15, .i1⟩
  | .hbm, ⟨85, _⟩ => ⟨S15, .f32⟩
  | .hbm, ⟨86, _⟩ => ⟨S15, .f32⟩
  | .hbm, ⟨87, _⟩ => ⟨S15, .f32⟩
  | .hbm, ⟨88, _⟩ => ⟨S_, .f32⟩
  | .hbm, ⟨89, _⟩ => ⟨S_, .f32⟩
  | .hbm, ⟨90, _⟩ => ⟨S15, .f32⟩
  | .hbm, ⟨91, _⟩ => ⟨S15, .f32⟩
  | .hbm, ⟨92, _⟩ => ⟨S_, .f32⟩
  | .hbm, ⟨93, _⟩ => ⟨S_, .f32⟩
  | .hbm, ⟨94, _⟩ => ⟨S1, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_cst_2 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_4 : Ref sig .tc := ⟨.hbm, 41, rfl⟩
abbrev main_v14 : Ref sig .tc := ⟨.hbm, 42, rfl⟩
abbrev main_call1_v0 : Ref sig .tc := ⟨.hbm, 43, rfl⟩
abbrev main_call1_cst : Ref sig .tc := ⟨.hbm, 44, rfl⟩
abbrev main_call1_c : Ref sig .tc := ⟨.hbm, 45, rfl⟩
abbrev main_call1_v1_0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_call2_v0 : Ref sig .tc := ⟨.hbm, 89, rfl⟩
abbrev main_call2_v1 : Ref sig .tc := ⟨.hbm, 90, rfl⟩
abbrev main_v50 : Ref sig .tc := ⟨.hbm, 91, rfl⟩
abbrev main_cst_12 : Ref sig .tc := ⟨.hbm, 92, rfl⟩
abbrev main_v51 : Ref sig .tc := ⟨.hbm, 93, rfl⟩
abbrev main_v52 : Ref sig .tc := ⟨.hbm, 94, rfl⟩

abbrev nD : Nat := 1
abbrev τ : Topo := Topo.v7x

variable {F : FTy → Type} [FloatOps F]
-- ==== Proof.Bits.Body.lean ====
/-
  The body of the first launch at one grid point, run: what it stores in the output block, as a function of the block of
  logits and the block of labels that it loads.
-/
module

public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import Idealize.ShloMosaic.Lib.Pipeline.RegionsForgetLinks
public import Idealize.ShloMosaic.Lib.HostLoop
public import Idealize.ShloMosaic.Lib.VecWindow
public import Idealize.ShloMosaic.Lib.Tactic

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: one copy of the pipelines' algebra per region entry, beside the transfers' counters. -/
abbrev UU : Type := IProdConst (Fin 2) (UR sig nD τ) × Counters

local notation "𝕄" => MT nD τ sig Unit (Elt F) ℕ UU ℕ

/-! ## The block a point leaves -/

/-- The sixteen bin edges the body compares the confidences with, as printed. -/
def edges : List (F .f32) :=
   [Scalar.ofBits .f32 0x00000000#32,
    Scalar.ofBits .f32 0x3D888889#32,
    Scalar.ofBits .f32 0x3E088889#32,
    Scalar.ofBits .f32 0x3E4CCCCD#32,
    Scalar.ofBits .f32 0x3E888889#32,
    Scalar.ofBits .f32 0x3EAAAAAB#32,
    Scalar.ofBits .f32 0x3ECCCCCD#32,
    Scalar.ofBits .f32 0x3EEEEEEF#32,
    Scalar.ofBits .f32 0x3F088889#32,
    Scalar.ofBits .f32 0x3F19999A#32,
    Scalar.ofBits .f32 0x3F2AAAAB#32,
    Scalar.ofBits .f32 0x3F3BBBBC#32,
    Scalar.ofBits .f32 0x3F4CCCCD#32,
    Scalar.ofBits .f32 0x3F5DDDDE#32,
    Scalar.ofBits .f32 0x3F6EEEEF#32,
    Scalar.ofBits .f32 0x3F800000#32]

/-- One row of the output block: the column sums of `x` where the confidence `cf` exceeds the edge `b`. -/
def row (cf x : FVec F S128x128 .f32) (b : F .f32) : FVec F S1x128 .f32 :=
  shapeCast S1x128 (multiReduction .add [0] S128 (select (cmpf .ogt cf (broadcast S128x128 b)) x (broadcast S128x128 (Scalar.ofBits .f32 0x00000000#32)))
    0x00000000#32 reduces_S128x128_S128 (.inl rfl) rfl) shapeCasts_S128_S1x128

/-- The forty-eight rows: the counts, the sums of the confidences, the sums of `cr` (1 where the prediction is right). -/
def rows (cf cr : FVec F S128x128 .f32) : List (Σ s : Shape, s.Idx → F .f32) :=
  (edges.map fun b => ⟨S1x128, row cf (broadcast S128x128 (Scalar.ofBits .f32 0x3F800000#32)) b⟩)
    ++ (edges.map fun b => ⟨S1x128, row cf cf b⟩) ++ edges.map fun b => ⟨S1x128, row cf cr b⟩

/-- The rows fill the block. -/
theorem rows_concat (cf cr : FVec F S128x128 .f32) : Shape.Concatenates ((rows cf cr).map (·.1)) S48x128 0 := concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S48x128_d0

/-- The output block over the confidences and the correctness bits of one block of rows. -/
def outBlk (cf cr : FVec F S128x128 .f32) : FVec F S1x48x128 .f32 :=
  shapeCast S1x48x128 (concatenate S48x128 0 (rows cf cr) (rows_concat cf cr)) shapeCasts_S48x128_S1x48x128

/-- The confidences the body compares at point `i`: at the last point those of rows past the end are set to 2. -/
def confAt (i : grid0.Coords) (v0 : Vec F S16384x100 .f32) : FVec F S128x128 .f32 :=
  if k0_cond2 i = 1#1 then k0_pay75 (k0_pay3 v0) else k0_pay3 v0

/-- What point `i` stores, over the loaded blocks. -/
def stored (i : grid0.Coords) (v0 : Vec F S16384x100 .f32) (v1 : Vec F S1x1x16384 .i32) : Vec F S1x48x128 .f32 :=
  outBlk (confAt i v0) (k0_pay4 v0 v1)

/-! ## The run -/

/-- At a grid point the body takes exactly one of its two branches. -/
theorem conds (i : grid0.Coords) : (k0_cond1 i = 1#1 ∧ ¬ k0_cond2 i = 1#1) ∨ (¬ k0_cond1 i = 1#1 ∧ k0_cond2 i = 1#1) := by
  revert i; decide +kernel

set_option sl_exec.resultNames true in
/-- The body at a point before the last: its first branch. -/
theorem run_full (c : Dev nD) (i : grid0.Coords) (h1 : k0_cond1 i = 1#1) (h2 : ¬ k0_cond2 i = 1#1)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (f0 f1 f2) (E : Set ℕ) (Q : PUnit → sProp 𝕄) :
    iprop((M0.view.loc (c : Thread nD τ) ↦{fullShare} f0) ∗ (M1.view.loc (c : Thread nD τ) ↦{fullShare} f1) ∗ (M2.view.loc (c : Thread nD τ) ↦{fullShare} f2)
        ∗ (iprop((M0.view.loc (c : Thread nD τ) ↦{fullShare} f0) ∗ (M1.view.loc (c : Thread nD τ) ↦{fullShare} f1)
            ∗ ∃ W, ⌜M2.view.read (Elt F) W = stored i (M0.view.read (Elt F) f0) (M1.view.read (Elt F) f1)⌝ ∗ (M2.view.loc (c : Thread nD τ) ↦{fullShare} W)) -∗ Q ⟨⟩))
      ⊢ wp frame (wpE (defs₀ (F := F)) Variants.none c none) E (cc0__pass1_body i M0 w0 M1 w1 M2 w2) Q := by
  rw [cc0__pass1_body_eq_skeleton]; unfold cc0__pass1_body_skel
  iintro ⟨H0, H1, H2, Hk⟩
  sl_exec (disch := assumption)
  sl_step
  iapply Hk
  isplitl [H0]; · iexact H0
  isplitl [H1]; · iexact H1
  iexists _
  isplitr; swap; · iexact H2
  ipureintro
  rw [View.read_writes_full]; unfold stored confAt; rw [if_neg h2]
  have e0 := View.readAt_full M0.view f0 inb_S16384x100_S16384x100_0_0
  have e1 := View.readAt_full M1.view f1 inb_S1x1x16384_S1x1x16384_0_0_0
  rw [← e0, ← e1]
  rfl

set_option sl_exec.resultNames true in
/-- The body at the last point: its second branch. -/
theorem run_tail (c : Dev nD) (i : grid0.Coords) (h1 : ¬ k0_cond1 i = 1#1) (h2 : k0_cond2 i = 1#1)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (f0 f1 f2) (E : Set ℕ) (Q : PUnit → sProp 𝕄) :
    iprop((M0.view.loc (c : Thread nD τ) ↦{fullShare} f0) ∗ (M1.view.loc (c : Thread nD τ) ↦{fullShare} f1) ∗ (M2.view.loc (c : Thread nD τ) ↦{fullShare} f2)
        ∗ (iprop((M0.view.loc (c : Thread nD τ) ↦{fullShare} f0) ∗ (M1.view.loc (c : Thread nD τ) ↦{fullShare} f1)
            ∗ ∃ W, ⌜M2.view.read (Elt F) W = stored i (M0.view.read (Elt F) f0) (M1.view.read (Elt F) f1)⌝ ∗ (M2.view.loc (c : Thread nD τ) ↦{fullShare} W)) -∗ Q ⟨⟩))
      ⊢ wp frame (wpE (defs₀ (F := F)) Variants.none c none) E (cc0__pass1_body i M0 w0 M1 w1 M2 w2) Q := by
  rw [cc0__pass1_body_eq_skeleton]; unfold cc0__pass1_body_skel
  iintro ⟨H0, H1, H2, Hk⟩
  sl_exec (disch := assumption)
  sl_step
  iapply Hk
  isplitl [H0]; · iexact H0
  isplitl [H1]; · iexact H1
  iexists _
  isplitr; swap; · iexact H2
  ipureintro
  rw [View.read_writes_full]; unfold stored confAt; rw [if_pos h2]
  have e0 := View.readAt_full M0.view f0 inb_S16384x100_S16384x100_0_0
  have e1 := View.readAt_full M1.view f1 inb_S1x1x16384_S1x1x16384_0_0_0
  rw [← e0, ← e1]
  rfl

/-- The body at any point. -/
theorem run_body (c : Dev nD) (i : grid0.Coords)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (f0 f1 f2) (E : Set ℕ) (Q : PUnit → sProp 𝕄) :
    iprop((M0.view.loc (c : Thread nD τ) ↦{fullShare} f0) ∗ (M1.view.loc (c : Thread nD τ) ↦{fullShare} f1) ∗ (M2.view.loc (c : Thread nD τ) ↦{fullShare} f2)
        ∗ (iprop((M0.view.loc (c : Thread nD τ) ↦{fullShare} f0) ∗ (M1.view.loc (c : Thread nD τ) ↦{fullShare} f1)
            ∗ ∃ W, ⌜M2.view.read (Elt F) W = stored i (M0.view.read (Elt F) f0) (M1.view.read (Elt F) f1)⌝ ∗ (M2.view.loc (c : Thread nD τ) ↦{fullShare} W)) -∗ Q ⟨⟩))
      ⊢ wp frame (wpE (defs₀ (F := F)) Variants.none c none) E (cc0__pass1_body i M0 w0 M1 w1 M2 w2) Q := by
  rcases conds i with ⟨h1, h2⟩ | ⟨h1, h2⟩
  · exact run_full c i h1 h2 M0 w0 M1 w1 M2 w2 f0 f1 f2 E Q
  · exact run_tail c i h1 h2 M0 w0 M1 w1 M2 w2 f0 f1 f2 E Q

/-- The same with the buffers held as memrefs read: `v0` and `v1` in, the stored block out. -/
theorem run_owns (c : Dev nD) (i : grid0.Coords)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (v0 v1 v2) (E : Set ℕ) (Q : PUnit → sProp 𝕄) :
    iprop(owns (c : Thread nD τ) M0 fullShare v0 ∗ owns (c : Thread nD τ) M1 fullShare v1 ∗ owns (c : Thread nD τ) M2 fullShare v2
        ∗ (iprop(owns (c : Thread nD τ) M0 fullShare v0 ∗ owns (c : Thread nD τ) M1 fullShare v1
            ∗ owns (c : Thread nD τ) M2 fullShare (stored i v0 v1)) -∗ Q ⟨⟩))
      ⊢ wp frame (wpE (defs₀ (F := F)) Variants.none c none) E (cc0__pass1_body i M0 w0 M1 w1 M2 w2) Q := by
  unfold owns
  rw [w0.set_eq_univ, w1.set_eq_univ, w2.set_eq_univ]
  iintro ⟨⟨%f0, %h0, H0⟩, ⟨%f1, %h1, H1⟩, ⟨%f2, -, H2⟩, Hk⟩
  iapply (run_body c i M0 w0 M1 w1 M2 w2 f0 f1 f2 E Q)
  isplitl [H0]; · iexact H0
  isplitl [H1]; · iexact H1
  isplitl [H2]; · iexact H2
  iintro ⟨H0, H1, %W, %hW, H2⟩
  iapply Hk
  isplitl [H0]; · iexists f0; isplitr; · ipureintro; exact h0
                  iexact H0
  isplitl [H1]; · iexists f1; isplitr; · ipureintro; exact h1
                  iexact H1
  iexists W; isplitr; · ipureintro; rw [hW, h0, h1]
  iexact H2

end Cert.Proof.Bits

end
-- ==== Proof.Ideal.Body.lean ====
/-
  The body of the first launch at one grid point, run: what it stores in the output block, as a function of the block of
  logits and the block of labels that it loads.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionsForgetLinks
public import Idealize.ShloMosaic.Lib.HostLoop
public import Idealize.ShloMosaic.Lib.VecWindow
public import Idealize.ShloMosaic.Lib.Tactic

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The user algebra: one copy of the pipelines' algebra per region entry, beside the transfers' counters. -/
abbrev UU : Type := IProdConst (Fin 2) (UR sig nD τ) × Counters

local notation "𝕄" => MT nD τ sig Unit (Elt F) ℕ UU ℕ

/-! ## The block a point leaves -/

/-- The sixteen bin edges the body compares the confidences with, as printed. -/
def edges : List (F .f32) :=
   [Scalar.ofBits .f32 0x00000000#32,
    Named.named κ "edge1" 0x3D888889#32,
    Named.named κ "edge2" 0x3E088889#32,
    Named.named κ "edge3" 0x3E4CCCCD#32,
    Named.named κ "edge4" 0x3E888889#32,
    Named.named κ "edge5" 0x3EAAAAAB#32,
    Named.named κ "edge6" 0x3ECCCCCD#32,
    Named.named κ "edge7" 0x3EEEEEEF#32,
    Named.named κ "edge8" 0x3F088889#32,
    Named.named κ "edge9" 0x3F19999A#32,
    Named.named κ "edge10" 0x3F2AAAAB#32,
    Named.named κ "edge11" 0x3F3BBBBC#32,
    Named.named κ "edge12" 0x3F4CCCCD#32,
    Named.named κ "edge13" 0x3F5DDDDE#32,
    Named.named κ "edge14" 0x3F6EEEEF#32,
    Scalar.ofBits .f32 0x3F800000#32]

/-- One row of the output block: the column sums of `x` where the confidence `cf` exceeds the edge `b`. -/
def row (cf x : FVec F S128x128 .f32) (b : F .f32) : FVec F S1x128 .f32 :=
  shapeCast S1x128 (multiReduction .add [0] S128 (select (cmpf .ogt cf (broadcast S128x128 b)) x (broadcast S128x128 (Scalar.ofBits .f32 0x00000000#32)))
    0x00000000#32 reduces_S128x128_S128 (.inl rfl) rfl) shapeCasts_S128_S1x128

/-- The forty-eight rows: the counts, the sums of the confidences, the sums of `cr` (1 where the prediction is right). -/
def rows (cf cr : FVec F S128x128 .f32) : List (Σ s : Shape, s.Idx → F .f32) :=
  (edges.map fun b => ⟨S1x128, row cf (broadcast S128x128 (Scalar.ofBits .f32 0x3F800000#32)) b⟩)
    ++ (edges.map fun b => ⟨S1x128, row cf cf b⟩) ++ edges.map fun b => ⟨S1x128, row cf cr b⟩

/-- The rows fill the block. -/
theorem rows_concat (cf cr : FVec F S128x128 .f32) : Shape.Concatenates ((rows cf cr).map (·.1)) S48x128 0 := concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S48x128_d0

/-- The output block over the confidences and the correctness bits of one block of rows. -/
def outBlk (cf cr : FVec F S128x128 .f32) : FVec F S1x48x128 .f32 :=
  shapeCast S1x48x128 (concatenate S48x128 0 (rows cf cr) (rows_concat cf cr)) shapeCasts_S48x128_S1x48x128

/-- The confidences the body compares at point `i`: at the last point those of rows past the end are set to 2. -/
def confAt (i : grid0.Coords) (v0 : Vec F S16384x100 .f32) : FVec F S128x128 .f32 :=
  if k0_cond2 i = 1#1 then k0_pay75 (k0_pay3 v0) else k0_pay3 v0

/-- What point `i` stores, over the loaded blocks. -/
def stored (i : grid0.Coords) (v0 : Vec F S16384x100 .f32) (v1 : Vec F S1x1x16384 .i32) : Vec F S1x48x128 .f32 :=
  outBlk (confAt i v0) (k0_pay4 v0 v1)

/-! ## The run -/

/-- At a grid point the body takes exactly one of its two branches. -/
theorem conds (i : grid0.Coords) : (k0_cond1 i = 1#1 ∧ ¬ k0_cond2 i = 1#1) ∨ (¬ k0_cond1 i = 1#1 ∧ k0_cond2 i = 1#1) := by
  revert i; decide +kernel

set_option sl_exec.resultNames true in
/-- The body at a point before the last: its first branch. -/
theorem run_full (c : Dev nD) (i : grid0.Coords) (h1 : k0_cond1 i = 1#1) (h2 : ¬ k0_cond2 i = 1#1)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (f0 f1 f2) (E : Set ℕ) (Q : PUnit → sProp 𝕄) :
    iprop((M0.view.loc (c : Thread nD τ) ↦{fullShare} f0) ∗ (M1.view.loc (c : Thread nD τ) ↦{fullShare} f1) ∗ (M2.view.loc (c : Thread nD τ) ↦{fullShare} f2)
        ∗ (iprop((M0.view.loc (c : Thread nD τ) ↦{fullShare} f0) ∗ (M1.view.loc (c : Thread nD τ) ↦{fullShare} f1)
            ∗ ∃ W, ⌜M2.view.read (Elt F) W = stored i (M0.view.read (Elt F) f0) (M1.view.read (Elt F) f1)⌝ ∗ (M2.view.loc (c : Thread nD τ) ↦{fullShare} W)) -∗ Q ⟨⟩))
      ⊢ wp frame (wpE (defs₀ (F := F)) Variants.none c none) E (cc0__pass1_body i M0 w0 M1 w1 M2 w2) Q := by
  rw [cc0__pass1_body_eq_skeleton]; unfold cc0__pass1_body_skel
  iintro ⟨H0, H1, H2, Hk⟩
  sl_exec (disch := assumption)
  sl_step
  iapply Hk
  isplitl [H0]; · iexact H0
  isplitl [H1]; · iexact H1
  iexists _
  isplitr; swap; · iexact H2
  ipureintro
  rw [View.read_writes_full]; unfold stored confAt; rw [if_neg h2]
  have e0 := View.readAt_full M0.view f0 inb_S16384x100_S16384x100_0_0
  have e1 := View.readAt_full M1.view f1 inb_S1x1x16384_S1x1x16384_0_0_0
  rw [← e0, ← e1]
  rfl

set_option sl_exec.resultNames true in
/-- The body at the last point: its second branch. -/
theorem run_tail (c : Dev nD) (i : grid0.Coords) (h1 : ¬ k0_cond1 i = 1#1) (h2 : k0_cond2 i = 1#1)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (f0 f1 f2) (E : Set ℕ) (Q : PUnit → sProp 𝕄) :
    iprop((M0.view.loc (c : Thread nD τ) ↦{fullShare} f0) ∗ (M1.view.loc (c : Thread nD τ) ↦{fullShare} f1) ∗ (M2.view.loc (c : Thread nD τ) ↦{fullShare} f2)
        ∗ (iprop((M0.view.loc (c : Thread nD τ) ↦{fullShare} f0) ∗ (M1.view.loc (c : Thread nD τ) ↦{fullShare} f1)
            ∗ ∃ W, ⌜M2.view.read (Elt F) W = stored i (M0.view.read (Elt F) f0) (M1.view.read (Elt F) f1)⌝ ∗ (M2.view.loc (c : Thread nD τ) ↦{fullShare} W)) -∗ Q ⟨⟩))
      ⊢ wp frame (wpE (defs₀ (F := F)) Variants.none c none) E (cc0__pass1_body i M0 w0 M1 w1 M2 w2) Q := by
  rw [cc0__pass1_body_eq_skeleton]; unfold cc0__pass1_body_skel
  iintro ⟨H0, H1, H2, Hk⟩
  sl_exec (disch := assumption)
  sl_step
  iapply Hk
  isplitl [H0]; · iexact H0
  isplitl [H1]; · iexact H1
  iexists _
  isplitr; swap; · iexact H2
  ipureintro
  rw [View.read_writes_full]; unfold stored confAt; rw [if_pos h2]
  have e0 := View.readAt_full M0.view f0 inb_S16384x100_S16384x100_0_0
  have e1 := View.readAt_full M1.view f1 inb_S1x1x16384_S1x1x16384_0_0_0
  rw [← e0, ← e1]
  rfl

/-- The body at any point. -/
theorem run_body (c : Dev nD) (i : grid0.Coords)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (f0 f1 f2) (E : Set ℕ) (Q : PUnit → sProp 𝕄) :
    iprop((M0.view.loc (c : Thread nD τ) ↦{fullShare} f0) ∗ (M1.view.loc (c : Thread nD τ) ↦{fullShare} f1) ∗ (M2.view.loc (c : Thread nD τ) ↦{fullShare} f2)
        ∗ (iprop((M0.view.loc (c : Thread nD τ) ↦{fullShare} f0) ∗ (M1.view.loc (c : Thread nD τ) ↦{fullShare} f1)
            ∗ ∃ W, ⌜M2.view.read (Elt F) W = stored i (M0.view.read (Elt F) f0) (M1.view.read (Elt F) f1)⌝ ∗ (M2.view.loc (c : Thread nD τ) ↦{fullShare} W)) -∗ Q ⟨⟩))
      ⊢ wp frame (wpE (defs₀ (F := F)) Variants.none c none) E (cc0__pass1_body i M0 w0 M1 w1 M2 w2) Q := by
  rcases conds i with ⟨h1, h2⟩ | ⟨h1, h2⟩
  · exact run_full c i h1 h2 M0 w0 M1 w1 M2 w2 f0 f1 f2 E Q
  · exact run_tail c i h1 h2 M0 w0 M1 w1 M2 w2 f0 f1 f2 E Q

/-- The same with the buffers held as memrefs read: `v0` and `v1` in, the stored block out. -/
theorem run_owns (c : Dev nD) (i : grid0.Coords)
    (M0 : Memref sig .tc .vmem S16384x100 .f32) (w0 : M0.IsWhole) (M1 : Memref sig .tc .vmem S1x1x16384 .i32) (w1 : M1.IsWhole)
    (M2 : Memref sig .tc .vmem S1x48x128 .f32) (w2 : M2.IsWhole) (v0 v1 v2) (E : Set ℕ) (Q : PUnit → sProp 𝕄) :
    iprop(owns (c : Thread nD τ) M0 fullShare v0 ∗ owns (c : Thread nD τ) M1 fullShare v1 ∗ owns (c : Thread nD τ) M2 fullShare v2
        ∗ (iprop(owns (c : Thread nD τ) M0 fullShare v0 ∗ owns (c : Thread nD τ) M1 fullShare v1
            ∗ owns (c : Thread nD τ) M2 fullShare (stored i v0 v1)) -∗ Q ⟨⟩))
      ⊢ wp frame (wpE (defs₀ (F := F)) Variants.none c none) E (cc0__pass1_body i M0 w0 M1 w1 M2 w2) Q := by
  unfold owns
  rw [w0.set_eq_univ, w1.set_eq_univ, w2.set_eq_univ]
  iintro ⟨⟨%f0, %h0, H0⟩, ⟨%f1, %h1, H1⟩, ⟨%f2, -, H2⟩, Hk⟩
  iapply (run_body c i M0 w0 M1 w1 M2 w2 f0 f1 f2 E Q)
  isplitl [H0]; · iexact H0
  isplitl [H1]; · iexact H1
  isplitl [H2]; · iexact H2
  iintro ⟨H0, H1, %W, %hW, H2⟩
  iapply Hk
  isplitl [H0]; · iexists f0; isplitr; · ipureintro; exact h0
                  iexact H0
  isplitl [H1]; · iexists f1; isplitr; · ipureintro; exact h1
                  iexact H1
  iexists W; isplitr; · ipureintro; rw [hW, h0, h1]
  iexact H2

end Cert.Proof.Ideal

end
-- ==== Proof.Ideal.Region0.lean ====
/-
  The first launch as a region of @main, entered from any contents of the buffers. The last block of the logits is cut at the
  array's end, so what the body computes there depends on contents that nothing fixes; the region is therefore stated
  relationally: it leaves in its result SOME contents `X` of which `Parts` holds.
-/
module

public import proofs.«01_k».proof.Proof.Ideal.Body
public import Idealize.ShloMosaic.Lib.Pipeline.DatRel
public import Idealize.ShloMosaic.Lib.Pipeline.ArrRel

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ UU ℕ

/-- Proof data for a pipeline that an entry does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

abbrev 𝒱₀ : Variants := Variants.none

/-- No core owes another anything: no level is assigned. -/
abbrev L : GSem nD τ sig → Finset Unit := fun _ => ∅
abbrev lv : GSem nD τ sig → Unit → ℕ := fun _ _ => 0

namespace R0

variable (V : (c : Dev nD) → (b : Ref sig .tc) → Buf (Elt F) ((c : Thread nD τ).loc b))

/-- The part of block `t` of the logits that lies inside the array. -/
abbrev blk0 (c : Dev nD) (t : Fin cfg0.N) : ((cfg0.win 0).xblock (cfg0.grid.coords t)).Idx → Elt F (cfg0.win 0).elt :=
  ((cfg0.win 0).blk t).view.read (Elt F) (V c main_arg0)

/-- Block `t` of the logits as the body finds it: `d` past the array's end. -/
abbrev logits (c : Dev nD) (t : Fin cfg0.N) (d : (cfg0.win 0).block.Idx → Elt F (cfg0.win 0).elt) : (cfg0.win 0).block.Idx → Elt F (cfg0.win 0).elt :=
  (cfg0.win 0).fill (cfg0.grid.coords t) d (blk0 V c t)

/-- Block `t` of the labels. -/
abbrev labels (c : Dev nD) (t : Fin cfg0.N) : (cfg0.win 1).block.Idx → Elt F (cfg0.win 1).elt :=
  ((cfg0.win 1).blk t).view.read (Elt F) (V c main_v1)

abbrev Φc (c : Dev nD) : sProp 𝕄 := Pipeline.scopedRest (Ix := Unit) (Name := ℕ) (U := UU) (Lvl := ℕ) (Val := Elt F) spec0 c

/-- The proof data of the region entered at `V`; what it leaves in the result's window is not read (`fgt`). -/
def dat (c : Dev nD) : Dat τ (Elt F) Unit ℕ UU ℕ cfg0 c where
  A w := V c (Pipeline.arrRef spec0 w)
  after w t := match w with
    | ⟨0, _⟩ => logits V c t fun _ => Classical.arbitrary _
    | ⟨1, _⟩ => labels V c t
    | ⟨2, _⟩ => fun _ => Classical.arbitrary _
  Φ _ := Φc c
  q _ := fullShare
  owed _ := 0

/-- The windows held to a relation: the result's. -/
abbrev fgt : Fin cfg0.W → Bool := fun | ⟨0, _⟩ => false | ⟨1, _⟩ => false | ⟨2, _⟩ => true

/-- What the body leaves in the result's staging buffer at `t`: what it computes of the block of logits, whatever that holds past
    the array's end. -/
def Rl (c : Dev nD) : (w : Fin cfg0.W) → Fin cfg0.N → ((cfg0.win w).block.Idx → Elt F (cfg0.win w).elt) → Prop
  | ⟨2, _⟩, t, X => ∃ d, X = stored (grid0.coords t) (logits V c t d) (labels V c t)
  | ⟨0, _⟩, _, _ => True
  | ⟨1, _⟩, _, _ => True

theorem before_0 (c : Dev nD) (t : Fin cfg0.N) (d) : (dat V c).before 0 t d = logits V c t d := by
  unfold Dat.before; rw [if_pos (fetch0_0 t)]; rfl

theorem before_1 (c : Dev nD) (t : Fin cfg0.N) (d) : (dat V c).before 1 t d = labels V c t := by
  unfold Dat.before; rw [if_pos (fetch0_1 t)]; rfl

/-- The body obligation: the three staging buffers taken apart, the body run, its post put together. -/
theorem body_obligation (c : Dev nD) : BodyObligationRel (dat V c) (defs₀ (F := F)) 𝒱₀ () Set.univ fgt (Rl V c) := fun t => by
  rw [bigSep_W0, bigSep_W0]
  rw [show (dat V c).Φ t.castSucc = Φc c from rfl, show (dat V c).Φ t.succ = Φc c from rfl,
    show (dat V c).owesAt () t.succ = (dat V c).owesAt () t.castSucc from rfl]
  iintro ⟨HΦ, Howes, ⟨%d0, H0⟩, ⟨%d1, H1⟩, ⟨%Y, -, H2⟩⟩
  rw [before_0, before_1]
  iapply (run_owns c (grid0.coords t) _ (hstage0_0 ((cfg0.slots t 0).cast nbuf0_0)) _ (hstage0_1 ((cfg0.slots t 1).cast nbuf0_1)) _
    (hstage0_2 ((cfg0.slots t 2).cast nbuf0_2)) _ _ _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]
  · iexists d0
    rw [show (cfg0.win 0).fill (cfg0.grid.coords t) d0 ((cfg0.win 0).cut (cfg0.grid.coords t) ((dat V c).after 0 t)) = logits V c t d0 from
      congrArg _ (Window.cut_fill _ _ _ _)]
    iexact H0
  isplitl [H1]; · iexact H1
  iexists _
  isplitr; swap; · iexact H2
  ipureintro; exact ⟨d0, rfl⟩

/-- What the result holds after the region: block by block, what the body computes of the block of logits, whatever that holds past
    the array's end. -/
def Parts (c : Dev nD) (X : S62x48x128.Idx → F .f32) : Prop :=
  ∀ t : Fin cfg0.N, ∃ d, ((cfg0.win 2).blk t).view.read (Elt F) X = stored (grid0.coords t) (logits V c t d) (labels V c t)

variable (adm : (p : Fin 2) → (pcfgs (F := F) p).Adm)

/-- The region's relational data, beside anything for the other pipeline. -/
def rdats : (p : Fin 2) → (c : Dev nD) → RDat τ (Elt F) Unit ℕ UU ℕ (Pipeline.pin (pcfgs (F := F)) adm p) c
  | ⟨0, _⟩ => fun c => (dat V c).toRRel fgt (Rl V c)
  | ⟨1, _⟩ => fun c => (junkDat c).toR

/-- The write-backs of the result's blocks do not overlap. -/
theorem disj2 : ∀ t t' : Fin cfg0.N, (cfg0.win 2).flush t = true → (cfg0.win 2).flush t' = true → t ≠ t' →
    Disjoint ((cfg0.win 2).blk t).view.set ((cfg0.win 2).blk t').view.set :=
  Window.hdisj_of_index_inj (cfg0.win 2) (by
    have h : ∀ t t' : Fin grid0.N, cc0_transform_2 (grid0.coords t) = cc0_transform_2 (grid0.coords t') → t = t' := by decide +kernel
    exact fun t t' _ _ e => h t t' e)

/-- What the result may hold after the write-backs meets `Parts`. -/
theorem parts_of_arrAt (c : Dev nD) (X) (h : ((dat V c).toRRel fgt (Rl V c)).ArrAt 2 cfg0.N X) : Parts V c X := fun t => by
  obtain ⟨Y, hY, hA⟩ := h.exists_exact
  have hf := flush0_2 t
  obtain ⟨d, hd⟩ := (dat V c).toRRel_leaves (show fgt 2 = true from rfl) (hY t t.isLt hf)
  refine ⟨d, ?_⟩
  have e := hA (Function.update (fun _ _ _ => Classical.arbitrary _) 2 Y) fun u _ _ => by rw [Function.update_self]
  rw [e, Dat.read_blk_arrAt_eq_flushed _ 2 disj2 cfg0.N t t.isLt hf, ← hd]
  unfold Dat.flushed
  rw [RDat.withAfter_after, Function.update_self]

variable (Vp : (c : Dev nD) → (S62x48x128.Idx → F .f32) → (b : Ref sig .tc) → Buf (Elt F) ((c : Thread nD τ).loc b))

set_option backward.isDefEq.respectTransparency.types false in
/-- The region: entered from every unscoped buffer at `V`, left with them at `Vp` of some contents `X` of the result that meet `Parts`. -/
def reg (R : Dev nD → sProp 𝕄) (hout : ∀ c X, Vp c X main_v2 = X)
    (hne : ∀ c X (b : Ref sig .tc), b ≠ main_v2 → Vp c X b = V c b) :
    RDat.RegionSeg (pcfgs (F := F)) adm (rdats V adm) () defs₀ 𝒱₀ L lv 0 where
  win := launch0.win.to₀
  block_pos := launch0.block_pos
  stage_whole := launch0.stage_whole
  K := PEmpty
  osem k := k.elim
  ho := Pipeline.OwnSemFacts.none _
  hbody c := (body_obligation V c).toRRel
  hwaits := RDat.hwaits_of_owed_zero _ _ _ _ L lv 0 fun _ _ => rfl
  pre c := iprop(unscopedBufs c (V c) ∗ R c ∗ ∃ W, owes (c : Thread nD τ) (0 : CellTallies nD τ sig Unit) W)
  post c := iprop(∃ X, unscopedBufs c (Vp c X) ∗ ⌜Parts V c X⌝ ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := RDat.arrays_of_unscopedBufs (p := 0) (pcfgs (F := F)) adm (rdats V adm) launch0.win launch0.arr_whole c
      ((rdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats V adm 0 c).owesAt () 0 = (dat V c).owesAt () 0 from rfl]
      unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (rdats V adm 0 c).Φ 0 = Φc c from rfl]
    iintro ⟨-, -, Hr⟩; iexact Hr
  hout c := by
    rw [Pipeline.ownSems0_none, show (rdats V adm 0 c).Φ (Fin.last _) = Φc c from rfl]
    iintro Hr
    isplitr; · iempintro
    isplitr; · iempintro
    iexact Hr
  hexit c := by
    have hex : ((rdats V adm 0 c).arraysAt cfg0.N : sProp 𝕄) ⊢ iprop(∃ A : (w : Fin cfg0.W) → Buf (Elt F) ((cfg0.win w).arr.view.loc (c.tc : Thread nD τ)),
        ⌜∀ w, ((dat V c).toRRel fgt (Rl V c)).ArrAt w cfg0.N (A w)⌝ ∗ (dat V c).arrays A) := by
      show (((dat V c).toRRel fgt (Rl V c)).arraysAt cfg0.N : sProp 𝕄) ⊢ _
      unfold RDat.arraysAt Dat.arrays
      refine (BI.bigSep_exists_pi Finset.univ _).trans ?_
      iintro ⟨%A, H⟩
      ihave H' := (BI.bigSep_pure_sep Finset.univ (fun w => ((dat V c).toRRel fgt (Rl V c)).ArrAt w cfg0.N (A w)) _) $$ H
      icases H' with ⟨%hA, H⟩
      iexists A
      isplitr
      · ipureintro; exact fun w => hA w (Finset.mem_univ w)
      iexact H
    have hO : ((rdats V adm 0 c).owesAt () (Fin.last cfg0.N) : sProp 𝕄) ⊢ iprop(∃ W, owes (c : Thread nD τ) (0 : CellTallies nD τ sig Unit) W) := by
      show ((dat V c).owesAt () (Fin.last cfg0.N) : sProp 𝕄) ⊢ _
      unfold Pipeline.Dat.owesAt Pipeline.owesWithin
      iintro ⟨%W, -, HO⟩; iexists W; iexact HO
    iintro ⟨Ha, HO, -, Hrest, HR⟩
    ihave Ha := hex $$ Ha
    icases Ha with ⟨%A, %hA, Ha⟩
    imodintro
    have hP : Parts V c (A 2) := parts_of_arrAt V c (A 2) (hA 2)
    have hjoin := Pipeline.unscopedBufs_of_arrays (p := 0) (pcfgs (F := F)) adm (Ix := Unit) (Name := ℕ) (U := UU) (Lvl := ℕ) launch0.win launch0.arr_whole c
      (fun p c => match p with | ⟨0, _⟩ => dat V c | ⟨1, _⟩ => junkDat c) ((dat V c).share_full fun _ => rfl) (V c) (Vp c (A 2)) A
      (fun w => by
        fin_cases w
        · have h := hA 0
          rw [RDat.ArrAt_in _ 0 rfl] at h
          exact h.trans (hne c (A 2) main_arg0 (by decide)).symm
        · have h := hA 1
          rw [RDat.ArrAt_in _ 1 rfl] at h
          exact h.trans (hne c (A 2) main_v1 (by decide)).symm
        · exact (hout c (A 2)).symm)
      (fun b hb => hne c (A 2) b fun h => hb (h ▸ Finset.mem_image.mpr ⟨2, Finset.mem_univ _, rfl⟩))
    iexists (A 2)
    isplitl [Ha Hrest]
    · iapply hjoin; isplitl [Ha] <;> iassumption
    isplitr; · ipureintro; exact hP
    isplitl [HR]; · iexact HR
    iapply hO
    iexact HO

end R0

end Cert.Proof.Ideal

end
-- ==== Proof.Ideal.Region1.lean ====
/-
  The second launch: its body run, and the launch as a region of @main, entered from any contents of the buffers and left with its
  result at what the body computes of the first launch's result.
-/
module

public import proofs.«01_k».proof.Proof.Ideal.Region0

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ UU ℕ

namespace R1

/-- The body at its one point. -/
theorem run_body (c : Dev nD) (i : grid1.Coords)
    (M0 : Memref sig .tc .vmem S62x48x128 .f32) (w0 : M0.IsWhole) (M1 : Memref sig .tc .vmem S1x128 .f32) (w1 : M1.IsWhole)
    (f0 f1) (E : Set ℕ) (Q : PUnit → sProp 𝕄) :
    iprop((M0.view.loc (c : Thread nD τ) ↦{fullShare} f0) ∗ (M1.view.loc (c : Thread nD τ) ↦{fullShare} f1)
        ∗ (iprop((M0.view.loc (c : Thread nD τ) ↦{fullShare} f0)
            ∗ ∃ W, ⌜M1.view.read (Elt F) W = k1_pay1 (M0.view.read (Elt F) f0)⌝ ∗ (M1.view.loc (c : Thread nD τ) ↦{fullShare} W)) -∗ Q ⟨⟩))
      ⊢ wp frame (wpE (defs₀ (F := F)) Variants.none c none) E (cc1__combine_body i M0 w0 M1 w1) Q := by
  rw [cc1__combine_body_eq_skeleton]; unfold cc1__combine_body_skel
  iintro ⟨H0, H1, Hk⟩
  sl_exec (disch := assumption)
  sl_step
  iapply Hk
  isplitl [H0]; · iexact H0
  iexists _
  isplitr; swap; · iexact H1
  ipureintro
  rw [View.read_writes_full]
  exact congrArg k1_pay1 (View.readAt_full ..)

/-- The same with the buffers held as memrefs read. -/
theorem run_owns (c : Dev nD) (i : grid1.Coords)
    (M0 : Memref sig .tc .vmem S62x48x128 .f32) (w0 : M0.IsWhole) (M1 : Memref sig .tc .vmem S1x128 .f32) (w1 : M1.IsWhole)
    (v0 v1) (E : Set ℕ) (Q : PUnit → sProp 𝕄) :
    iprop(owns (c : Thread nD τ) M0 fullShare v0 ∗ owns (c : Thread nD τ) M1 fullShare v1
        ∗ (iprop(owns (c : Thread nD τ) M0 fullShare v0 ∗ owns (c : Thread nD τ) M1 fullShare (k1_pay1 v0)) -∗ Q ⟨⟩))
      ⊢ wp frame (wpE (defs₀ (F := F)) Variants.none c none) E (cc1__combine_body i M0 w0 M1 w1) Q := by
  unfold owns
  rw [w0.set_eq_univ, w1.set_eq_univ]
  iintro ⟨⟨%f0, %h0, H0⟩, ⟨%f1, -, H1⟩, Hk⟩
  iapply (run_body c i M0 w0 M1 w1 f0 f1 E Q)
  isplitl [H0]; · iexact H0
  isplitl [H1]; · iexact H1
  iintro ⟨H0, %W, %hW, H1⟩
  iapply Hk
  isplitl [H0]; · iexists f0; isplitr; · ipureintro; exact h0
                  iexact H0
  iexists W; isplitr; · ipureintro; rw [hW, h0]
  iexact H1

variable (V : (c : Dev nD) → (b : Ref sig .tc) → Buf (Elt F) ((c : Thread nD τ).loc b))

/-- The first launch's result as the body finds it. -/
abbrev parts (c : Dev nD) : (cfg1.win 0).block.Idx → Elt F (cfg1.win 0).elt :=
  ((cfg1.win 0).blk t1_0).view.read (Elt F) (V c main_v2)

abbrev Φc (c : Dev nD) : sProp 𝕄 := Pipeline.scopedRest (Ix := Unit) (Name := ℕ) (U := UU) (Lvl := ℕ) (Val := Elt F) spec1 c

/-- The proof data of the region entered at `V`. -/
def dat (c : Dev nD) : Dat τ (Elt F) Unit ℕ UU ℕ cfg1 c where
  A w := V c (Pipeline.arrRef spec1 w)
  after w _ := match w with
    | ⟨0, _⟩ => parts V c
    | ⟨1, _⟩ => k1_pay1 (parts V c)
  Φ _ := Φc c
  q _ := fullShare
  owed _ := 0

theorem before_0 (c : Dev nD) (d) : (dat V c).before 0 t1_0 d = parts V c := by
  unfold Dat.before; rw [if_pos (fetch1_0 t1_0)]; rfl

/-- The body obligation. -/
theorem body_obligation (c : Dev nD) : BodyObligation (dat V c) (defs₀ (F := F)) 𝒱₀ () Set.univ := fun t => by
  obtain rfl := fin_N1 t
  rw [bigSep_W1, bigSep_W1]
  rw [show (dat V c).Φ t1_0.castSucc = Φc c from rfl, show (dat V c).Φ t1_0.succ = Φc c from rfl,
    show (dat V c).owesAt () t1_0.succ = (dat V c).owesAt () t1_0.castSucc from rfl]
  iintro ⟨HΦ, Howes, ⟨%d0, H0⟩, ⟨%d1, H1⟩⟩
  rw [before_0]
  iapply (run_owns c (grid1.coords t1_0) _ (hstage1_0 ((cfg1.slots t1_0 0).cast nbuf1_0)) _ (hstage1_1 ((cfg1.slots t1_0 1).cast nbuf1_1)) _ _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

variable (adm : (p : Fin 2) → (pcfgs (F := F) p).Adm)

/-- The region's data, beside anything for the other pipeline. -/
def pdats : (p : Fin 2) → (c : Dev nD) → Dat τ (Elt F) Unit ℕ UU ℕ (Pipeline.pin (pcfgs (F := F)) adm p) c
  | ⟨1, _⟩ => fun c => dat V c
  | ⟨0, _⟩ => fun c => junkDat c

/-- The result after the region. -/
def result (c : Dev nD) : Buf (Elt F) ((c : Thread nD τ).loc main_v3) := (dat V c).arrAt 1 cfg1.N

variable (Vp : (c : Dev nD) → (b : Ref sig .tc) → Buf (Elt F) ((c : Thread nD τ).loc b))

set_option backward.isDefEq.respectTransparency.types false in
/-- The region: entered from every unscoped buffer at `V`, left with them at `Vp`. -/
def reg (R : Dev nD → sProp 𝕄) (hVp_out : ∀ c, Vp c main_v3 = result V c)
    (hVp_ne : ∀ c (b : Ref sig .tc), b ≠ main_v3 → Vp c b = V c b) : Pipeline.RegionSeg (pcfgs (F := F)) adm (pdats V adm) () defs₀ 𝒱₀ L lv 1 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ L lv 1 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec1 c (V c) ∗ R c)
  hentry c := by
    rw [Pipeline.ownSems0_none]
    have hsplit := Pipeline.arrays_of_unscopedBufs (p := 1) (pcfgs (F := F)) adm (pdats V adm) launch1.win launch1.arr_whole c
      ((pdats V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V adm 1 c).Φ 0 = Φc c from rfl]
    iintro ⟨-, -, Hr⟩; iexact Hr
  hout c := by
    rw [Pipeline.ownSems0_none, show (pdats V adm 1 c).Φ (Fin.last _) = Φc c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats V adm) ((pdats V adm 1 c).share_full fun _ => rfl) (V c) (Vp c) ((pdats V adm 1 c).arrAt · cfg1.N)
      (fun w => by
        fin_cases w
        · exact ((pdats V adm 1 c).arrAt_in 0 rfl _).trans (hVp_ne c main_v2 (by decide)).symm
        · exact (hVp_out c).symm)
      (fun b hb => hVp_ne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end R1

end Cert.Proof.Ideal

end
-- ==== Proof.Ideal.Run.lean ====
/-
  The kernel's run: @main's host stretches and its two launches put together. Every execution ends, the arguments unchanged and the
  semaphores at zero, with the result that the host computes from SOME contents `X` of the first launch's result that meet
  `R0.Parts`.
-/
module

public import proofs.«01_k».proof.Proof.Ideal.Region0
public import proofs.«01_k».proof.Proof.Ideal.Region1
public import proofs.«01_k».proof.Proof.Gen.KernelIdeal.Regions
public import Idealize.ShloMosaic.Lib.HostLoop.Lifted
public import Idealize.ShloMosaic.Lib.Pipeline.RegionsLoop
public import Idealize.ShloMosaic.Lib.Pipeline.RegionsForgetR
public import Idealize.ShloMosaic.Lib.Pipeline.RegionsForgetLinks

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (CSeg)

variable {F : FTy → Type} [FloatOps F] [Named F]

local notation "𝕄" => MT nD τ sig Unit (Elt F) ℕ UU ℕ

namespace Run

/-- @main calls no loop. -/
abbrev loops : Fin 0 → Prog (TpuEff nD τ sig (Elt F) (HostLoop.Sig (Pipeline.Sig Λ₀ (Fin 2) fun p => (pcfgs (F := F) p).Adm) 0) .tc) PUnit := fun l => l.elim0

/-- One ticket per launch. -/
abbrev tk : Fin 2 → Pipeline.Ticket (Ix := Unit) (Name := ℕ) (U := UU) (Lvl := ℕ) (nD := nD) (τ := τ) (pcfgs (F := F)) adm
  | ⟨0, h⟩ => { p := 0, pdats := fun _ c => junkDat c, EP := embAt ⟨0, h⟩ }
  | ⟨1, h⟩ => { p := 1, pdats := fun _ c => junkDat c, EP := embAt ⟨1, h⟩ }

variable (m : (ℓ : Loc nD τ sig) → Buf (Elt F) ℓ)

/-! ## What the buffers hold after each item, over the unknown contents of the first launch's result -/

/-- What the first launch's result may hold. -/
abbrev O : Type := S62x48x128.Idx → F .f32

/-- After the first launch. -/
def W4 (X : O (F := F)) (c : Dev nD) : Valuation τ sig (Elt F) := Function.update (V3 m c) (Proc.devRef .tc main_v2) X
/-- After the second. -/
def W5 (X : O (F := F)) (c : Dev nD) : Valuation τ sig (Elt F) :=
  Function.update (W4 m X c) (Proc.devRef .tc main_v3) (R1.result (fun c b => W4 m X c b) c)
/-- At the end. -/
def W6 (X : O (F := F)) (c : Dev nD) : Valuation τ sig (Elt F) := StableHlo.after hostOps2 (W5 m X c)

theorem W4_v2 (X : O (F := F)) (c : Dev nD) : W4 m X c main_v2 = X := by
  unfold W4; exact Function.update_self ..
theorem W4_of (X : O (F := F)) (c : Dev nD) (b : Ref sig .tc) (h : b ≠ main_v2) : W4 m X c b = V3 m c b := by
  unfold W4; exact Function.update_of_ne (StableHlo.devRef_ne_of_ne h) ..
theorem W5_v3 (X : O (F := F)) (c : Dev nD) : W5 m X c main_v3 = R1.result (fun c b => W4 m X c b) c := by
  unfold W5; exact Function.update_self ..
theorem W5_of (X : O (F := F)) (c : Dev nD) (b : Ref sig .tc) (h : b ≠ main_v3) : W5 m X c b = W4 m X c b := by
  unfold W5; exact Function.update_of_ne (StableHlo.devRef_ne_of_ne h) ..

theorem W6_arg (X : O (F := F)) (c : Dev nD) (b : Ref sig .tc) (h : b ∈ [main_arg0, main_arg1]) : W6 m X c b = m ((c : Thread nD τ).loc b) := by
  have h' : ∀ b ∈ [main_arg0, main_arg1], b ∉ hostOps2_W ∧ b ≠ main_v3 ∧ b ≠ main_v2 ∧ b ∉ hostOps0_2_W ∧ b ∉ hostOps0_1_W ∧ b ∉ hostOps0_W := by decide
  obtain ⟨h1, h2, h3, h4, h5, h6⟩ := h' b h
  unfold W6
  exact (StableHlo.after_of_writes_sub hostOps2 _ hostOps2_writes h1).trans <| (W5_of m X c b h2).trans <| (W4_of m X c b h3).trans <|
    (V3_of m c b h4).trans <| (V2_of m c b h5).trans (V1_of m c b h6)

/-- The fact of the unknown contents. -/
abbrev sel (X : O (F := F)) (c : Dev nD) : Prop := R0.Parts (fun c b => V3 m c b) c X

/-! ## The items as segments -/

/-- What rides along: the PRNG register at some value. -/
abbrev Rr (c : Dev nD) : sProp 𝕄 := iprop(∃ r, prngReg c r)
/-- Also what the core owes, which is nothing. -/
abbrev Ro (c : Dev nD) : sProp 𝕄 := iprop(Rr c ∗ ∃ W, owes (c : Thread nD τ) (0 : CellTallies nD τ sig Unit) W)

def s0 : CSeg (pcfgs (F := F)) adm defs₀ 𝒱₀ L lv loops tk :=
  CSeg.ofOps _ _ _ _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Ro
def s1 : CSeg (pcfgs (F := F)) adm defs₀ 𝒱₀ L lv loops tk :=
  CSeg.ofOps _ _ _ _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) Ro
def s2 : CSeg (pcfgs (F := F)) adm defs₀ 𝒱₀ L lv loops tk :=
  CSeg.ofOps _ _ _ _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) Ro
/-- The first launch. -/
def s3 : CSeg (pcfgs (F := F)) adm defs₀ 𝒱₀ L lv loops tk :=
  CSeg.regionAtR _ _ () cellOf_inj _ _ _ _ _ _ 0 (R0.rdats (fun c b => V3 m c b) adm)
    (R0.reg (fun c b => V3 m c b) adm (fun c X b => W4 m X c b) Rr (fun c X => W4_v2 m X c) (fun c X b h => W4_of m X c b h))
/-- The second, at each contents of the first's result. -/
def s4 : CSeg (pcfgs (F := F)) adm defs₀ 𝒱₀ L lv loops tk :=
  CSeg.regionF _ _ () cellOf_inj _ _ _ _ _ _ 1 (fun X => R1.pdats (fun c b => W4 m X c b) adm)
    (fun X => R1.reg (fun c b => W4 m X c b) adm (fun c b => W5 m X c b) Rr (fun c => W5_v3 m X c) (fun c b h => W5_of m X c b h)) (sel m)
/-- The last stretch at each contents. -/
def s5 : CSeg (pcfgs (F := F)) adm defs₀ 𝒱₀ L lv loops tk :=
  CSeg.exSel (sel m) (fun X => CSeg.ofOps _ _ _ _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m X) Ro)
    (StableHlo.seq hostOps2) (fun _ => rfl) 0 (fun _ => le_rfl) ∅ (fun _ => rfl)

def segs : List (CSeg (pcfgs (F := F)) adm defs₀ 𝒱₀ L lv loops tk) := [s0 m, s1 m, s2 m, s3 m, s4 m, s5 m]

/-- @main over the wider labels is the segments in order. -/
theorem main_run (c : Dev nD) : HostLoop.liftProg (L := 0) (main (F := F) c) = CSeg.runL (segs m) := by
  rw [main_chain, HostLoop.liftProg_chain]
  simp only [List.map_cons, List.map_nil, HostLoop.liftProg_seq]
  rfl

theorem segs_disjoint : (segs m).Pairwise fun s s' => Disjoint s.T s'.T := by
  have h0 : (s0 m).T = ∅ := rfl
  have h1 : (s1 m).T = ∅ := rfl
  have h2 : (s2 m).T = ∅ := rfl
  have h3 : (s3 m).T = {0} := rfl
  have h4 : (s4 m).T = {1} := rfl
  have h5 : (s5 m).T = ∅ := rfl
  simp [segs, h0, h1, h2, h3, h4, h5]

/-- What is held at the start, and at the end. -/
abbrev T₀ (c : Dev nD) : sProp 𝕄 := iprop(StableHlo.held (c : Thread nD τ) (Pipeline.ucRefs τ sig) (V0 m c) ∗ Ro c)
abbrev Tₙ (c : Dev nD) : sProp 𝕄 := iprop(∃ X : O (F := F), ⌜sel m X c⌝ ∗ StableHlo.held (c : Thread nD τ) (Pipeline.ucRefs τ sig) (W6 m X c))

theorem link3 (c : Dev nD) : (s2 m).post c ⊢ (s3 m).pre c := by
  show iprop(StableHlo.held (c : Thread nD τ) (Pipeline.ucRefs τ sig) (V3 m c) ∗ Ro c)
    ⊢ iprop(unscopedBufs c (fun b => V3 m c b) ∗ Rr c ∗ ∃ W, owes (c : Thread nD τ) (0 : CellTallies nD τ sig Unit) W)
  rw [Pipeline.unscopedBufs_held c (V3 m c)]

/-- A region's thread state at contents `W` of the unscoped buffers. -/
abbrev St (c : Dev nD) (W : Valuation τ sig (Elt F)) : sProp 𝕄 :=
  iprop(unscopedBufs c (fun b => W b) ∗ Rr c ∗ ∃ W, owes (c : Thread nD τ) (0 : CellTallies nD τ sig Unit) W)

theorem link4 (c : Dev nD) : (s3 m).post c ⊢ (s4 m).pre c := by
  have h1 : (s3 m).post c = iprop(∃ X : O (F := F), unscopedBufs c (fun b => W4 m X c b) ∗ ⌜sel m X c⌝ ∗ Rr c
      ∗ ∃ W, owes (c : Thread nD τ) (0 : CellTallies nD τ sig Unit) W) := rfl
  rw [h1]
  unfold s4
  exact CSeg.regionF_pre c fun X _ => .rfl

theorem link5 (c : Dev nD) : (s4 m).post c ⊢ (s5 m).pre c := by
  unfold s4
  refine CSeg.regionF_post c fun X hX => ?_
  have h1 : (s5 m).pre c = iprop(∃ X : O (F := F), ⌜sel m X c⌝ ∗ StableHlo.held (c : Thread nD τ) (Pipeline.ucRefs τ sig) (W5 m X c) ∗ Ro c) := rfl
  rw [h1]
  show St c (W5 m X c) ⊢ _
  unfold St
  rw [Pipeline.unscopedBufs_held c]
  iintro H
  iexists X
  isplitr; · ipureintro; exact hX
  iexact H

theorem link6 (c : Dev nD) : (s5 m).post c ⊢ iprop(Tₙ m c ∗ ∃ W, owes (c : Thread nD τ) (0 : CellTallies nD τ sig Unit) W) := by
  show iprop(∃ X : O (F := F), ⌜sel m X c⌝ ∗ StableHlo.held (c : Thread nD τ) (Pipeline.ucRefs τ sig) (W6 m X c) ∗ Ro c) ⊢ _
  iintro ⟨%X, %h, Hh, -, HO⟩
  isplitr [HO]; swap; · iexact HO
  iexists X
  isplitr; · ipureintro; exact h
  iexact Hh

/-! ## The launch -/

theorem hinit1 (g : Dev nD → PrngReg) (c : Dev nD) :
    iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (g c) ∗ BI.emp)
      ⊢ (T₀ m c : sProp 𝕄) := by
  rw [show unscopedBufs c (fun b => m ((c : Thread nD τ).loc b)) = StableHlo.held (c : Thread nD τ) (Pipeline.ucRefs τ sig) (V0 m c) from Pipeline.unscopedBufs_held c (V0 m c)]
  iintro ⟨Hh, -, HO, -, Hp, -⟩
  isplitl [Hh]; · iexact Hh
  isplitl [Hp]; · iexists _; iexact Hp
  iexists ∅; iexact HO

theorem hinit (g : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (g c) ∗ BI.emp)) ∗ levAts L lv)
      ⊢ (|={Set.univ}=> bigSep Finset.univ (T₀ m) : sProp 𝕄) := by
  iintro ⟨H, -⟩
  imodintro
  iapply (show bigSep Finset.univ _ ⊢ bigSep Finset.univ (T₀ m) from bigSep_mono fun c _ => hinit1 m g c) $$ H

/-- What a final memory has on core `c`. -/
abbrev End (c : Dev nD) (s : MemSt nD τ sig (Elt F)) : Prop :=
  (∃ X : O (F := F), sel m X c ∧ s.mem ((c : Thread nD τ).loc main_v5) = W6 m X c main_v5)
    ∧ s.mem ((c : Thread nD τ).loc main_arg0) = m ((c : Thread nD τ).loc main_arg0)
    ∧ s.mem ((c : Thread nD τ).loc main_arg1) = m ((c : Thread nD τ).loc main_arg1)

theorem hfin (c : Dev nD) (s' : Phys nD τ sig (Elt F)) : iprop(Tₙ m c ∗ SI s') ⊢ (|={Set.univ}=> iprop(⌜End m c s'.mem⌝ ∗ SI s') : sProp 𝕄) := by
  unfold Tₙ StableHlo.held
  iintro ⟨⟨%X, %hX, Hh⟩, HSI⟩
  ihave Hr := (pointsTo_read_all (Pipeline.ucRefs τ sig) (fun b => ((c : Thread nD τ).1, b)) (W6 m X c) s') $$ [Hh HSI]
  · isplitl [Hh] <;> iassumption
  icases Hr with ⟨%h, HSI⟩
  imodintro
  isplitr
  · ipureintro
    exact ⟨⟨X, hX, h (Proc.devRef .tc main_v5) (Finset.mem_filter.mpr ⟨StableHlo.devRef_mem_tcRefs main_v5, by decide⟩)⟩,
      (h (Proc.devRef .tc main_arg0) (Finset.mem_filter.mpr ⟨StableHlo.devRef_mem_tcRefs main_arg0, by decide⟩)).trans (W6_arg m X c main_arg0 (by decide)),
      (h (Proc.devRef .tc main_arg1) (Finset.mem_filter.mpr ⟨StableHlo.devRef_mem_tcRefs main_arg1, by decide⟩)).trans (W6_arg m X c main_arg1 (by decide))⟩
  · iexact HSI

/-- What a ticket's copy of the pipelines' algebra holds at launch. -/
abbrev launch0el : UR sig nD τ :=
  Rounds.initOf (Pipeline.cells (Pipeline.pin (pcfgs (F := F)) adm) cellOf_inj) (Pipeline.launchToks (Pipeline.pin (pcfgs (F := F)) adm) cellOf_inj)

theorem tk_own (j : Fin 2) (x : UR sig nD τ) : (BI.own (embAt (B := Counters) j x) : sProp 𝕄) ⊢ BI.own ((tk (F := F) j).EP x) := by
  fin_cases j <;> exact .rfl

set_option backward.isDefEq.respectTransparency.types false in
/-- The run of @main over the wider labels. -/
theorem run_lifted (g : Dev nD → PrngReg) :
    θ_run (HostLoop.defs loops (defs (F := F))) (onTc (τ := τ) fun d => HostLoop.liftProg (L := 0) (main (F := F) d)) ⟨m, fun _ => 0, g⟩
      (fun r => (∀ c : Dev nD, End m c r.2) ∧ r.2.sem = fun _ => 0) :=
  Pipeline.θ_run_regions_loop_kit_sems (pcfgs (F := F)) adm cellOf_inj defs₀ 𝒱₀ L lv loops tk m g (fun d => HostLoop.liftProg (L := 0) (main (F := F) d)) (segs m)
    (fun c Q => by rw [main_run m c]) (segs_disjoint m)
    (O₀ := fun _ => 0) (hL := fun _ _ => rfl) (G := fun _ => BI.emp)
    (u₀ := (fun _ => launch0el (F := F), 1))
    (hu₀ := by
      iintro Hu
      ihave H := (ownU_pair _ _) $$ Hu
      icases H with ⟨HP, -⟩
      ihave HP' := (own_iprod _) $$ HP
      imodintro
      isplitl [HP']
      · iapply (show bigSep Finset.univ (fun j : Fin 2 => BI.own (embAt (B := Counters) j (launch0el (F := F))))
          ⊢ bigSep Finset.univ (fun j : Fin 2 => (BI.own ((tk (F := F) j).EP launch0el) : sProp 𝕄)) from bigSep_mono fun j _ => tk_own j _) $$ HP'
      iapply (show (BI.emp : sProp 𝕄) ⊢ bigSep Finset.univ (fun _ : Dev nD => (BI.emp : sProp 𝕄)) from by rw [BI.bigSep_emp_const])
      iempintro)
    (T₀ := T₀ m) (Tₙ := Tₙ m)
    (hch := ⟨fun _ => .rfl, fun _ => .rfl, fun _ => .rfl, link3 m, link4 m, link5 m, link6 m⟩)
    (hinit := hinit m g)
    (QY := fun c s => End m c s)
    (hfin := hfin m)
    (hQ := fun _ h hz => ⟨h, funext fun g => hz g (.inr (regions_no_unscoped g.2))⟩)

/-- THE RUN of @main. -/
theorem run_main (g : Dev nD → PrngReg) :
    θ_run (defs (F := F)) (onTc (τ := τ) (main (F := F))) ⟨m, fun _ => 0, g⟩ (fun r => (∀ c : Dev nD, End m c r.2) ∧ r.2.sem = fun _ => 0) :=
  HostLoop.θ_run_of_lift loops _ _ _ _ (run_lifted m g)

end Run

end Cert.Proof.Ideal

end
-- ==== Proof.Ref.Ops.lean ====
/-
  The reference's run: its operations as seven lists, in order, and what a run of them leaves: every buffer as the lists say, the
  arguments as they were, the semaphores at zero.
-/
module

public import proofs.«01_k».proof.Proof.Gen.ReferenceIdeal
public import Idealize.ShloMosaic.Lib.StableHlo.RunHlo
public import Idealize.ShloMosaic.Lib.Pipeline.Regions
public import Idealize.ShloMosaic.Lib.Quiescent
public import Idealize.ShloMosaic.Lib.Claim

@[expose] public section

set_option maxRecDepth 16384

noncomputable section

namespace Cert.Proof.Ref

open Cert.ReferenceIdeal Cert.ReferenceIdeal.Gen
open Idealize.ShloMosaic Idealize.SL.Sem
open Idealize.ShloMosaic.TcCoe

variable {F : FTy → Type} [FloatOps F]

/-- The 16 edges, and each bin's lower and upper one. -/
abbrev opsEdges : List (HloOp τ sig (Elt F)) :=
  [ StableHlo.nullary main_cst (constant S_ .f32 0x00000000#32),
    StableHlo.nullary main_cst_0 (constant S_ .f32 0x3F800000#32),
    StableHlo.unary main_cst main_call0_v0 (id : (⟨S_, .f32⟩ : BufTy).Contents (Elt F) → (⟨S_, .f32⟩ : BufTy).Contents (Elt F)),
    StableHlo.unary main_cst_0 main_call0_v1 (id : (⟨S_, .f32⟩ : BufTy).Contents (Elt F) → (⟨S_, .f32⟩ : BufTy).Contents (Elt F)),
    StableHlo.binary main_call0_v1 main_call0_v0 main_call0_v2 (subf : (⟨S_, .f32⟩ : BufTy).Contents (Elt F) → (⟨S_, .f32⟩ : BufTy).Contents (Elt F) → (⟨S_, .f32⟩ : BufTy).Contents (Elt F)),
    StableHlo.nullary main_call0_cst (constant S_ .f32 0x41700000#32),
    StableHlo.binary main_call0_v2 main_call0_cst main_call0_v3 (Host.divf : (⟨S_, .f32⟩ : BufTy).Contents (Elt F) → (⟨S_, .f32⟩ : BufTy).Contents (Elt F) → (⟨S_, .f32⟩ : BufTy).Contents (Elt F)),
    StableHlo.nullary main_call0_v4 (sitofp .f32 (iotaInDim S15 32 0)),
    StableHlo.nullary main_call0_cst_0 (constant S_ .f32 0x41700000#32),
    StableHlo.unary main_call0_cst_0 main_call0_v5 ((broadcastInDim S15 ![] bcast_S_S15) : (⟨S_, .f32⟩ : BufTy).Contents (Elt F) → (⟨S15, .f32⟩ : BufTy).Contents (Elt F)),
    StableHlo.binary main_call0_v4 main_call0_v5 main_call0_v6 (Host.divf : (⟨S15, .f32⟩ : BufTy).Contents (Elt F) → (⟨S15, .f32⟩ : BufTy).Contents (Elt F) → (⟨S15, .f32⟩ : BufTy).Contents (Elt F)),
    StableHlo.reshape main_call0_v0 main_call0_v7 (rfl : (.f32 : EltTy) = .f32) shapeCasts_S_S1,
    StableHlo.nullary main_call0_cst_1 (constant S_ .f32 0x3F800000#32),
    StableHlo.unary main_call0_cst_1 main_call0_v8 ((broadcastInDim S15 ![] bcast_S_S15) : (⟨S_, .f32⟩ : BufTy).Contents (Elt F) → (⟨S15, .f32⟩ : BufTy).Contents (Elt F)),
    StableHlo.binary main_call0_v8 main_call0_v6 main_call0_v9 (subf : (⟨S15, .f32⟩ : BufTy).Contents (Elt F) → (⟨S15, .f32⟩ : BufTy).Contents (Elt F) → (⟨S15, .f32⟩ : BufTy).Contents (Elt F)),
    StableHlo.unary main_call0_v7 main_call0_v10 ((broadcastInDim S15 ![0] bcast_S1_S15_0) : (⟨S1, .f32⟩ : BufTy).Contents (Elt F) → (⟨S15, .f32⟩ : BufTy).Contents (Elt F)),
    StableHlo.binary main_call0_v10 main_call0_v9 main_call0_v11 (mulf : (⟨S15, .f32⟩ : BufTy).Contents (Elt F) → (⟨S15, .f32⟩ : BufTy).Contents (Elt F) → (⟨S15, .f32⟩ : BufTy).Contents (Elt F)),
    StableHlo.reshape main_call0_v1 main_call0_v12 (rfl : (.f32 : EltTy) = .f32) shapeCasts_S_S1,
    StableHlo.unary main_call0_v12 main_call0_v13 ((broadcastInDim S15 ![0] bcast_S1_S15_0) : (⟨S1, .f32⟩ : BufTy).Contents (Elt F) → (⟨S15, .f32⟩ : BufTy).Contents (Elt F)),
    StableHlo.binary main_call0_v13 main_call0_v6 main_call0_v14 (mulf : (⟨S15, .f32⟩ : BufTy).Contents (Elt F) → (⟨S15, .f32⟩ : BufTy).Contents (Elt F) → (⟨S15, .f32⟩ : BufTy).Contents (Elt F)),
    StableHlo.binary main_call0_v11 main_call0_v14 main_call0_v15 (addf : (⟨S15, .f32⟩ : BufTy).Contents (Elt F) → (⟨S15, .f32⟩ : BufTy).Contents (Elt F) → (⟨S15, .f32⟩ : BufTy).Contents (Elt F)),
    StableHlo.unary main_call0_v1 main_call0_v16 ((broadcastInDim S1 ![] bcast_S_S1) : (⟨S_, .f32⟩ : BufTy).Contents (Elt F) → (⟨S1, .f32⟩ : BufTy).Contents (Elt F)),
    StableHlo.binary main_call0_v15 main_call0_v16 main_v0 ((fun a b => concatenate S16 0 [⟨S15, a⟩, ⟨S1, b⟩] concatenates_S15_S1_S16_d0) : (⟨S15, .f32⟩ : BufTy).Contents (Elt F) → (⟨S1, .f32⟩ : BufTy).Contents (Elt F) → (⟨S16, .f32⟩ : BufTy).Contents (Elt F)),
    StableHlo.unary main_v0 main_v1 ((extractStridedSlice S15 ![0] · slices_S16_S15_0) : (⟨S16, .f32⟩ : BufTy).Contents (Elt F) → (⟨S15, .f32⟩ : BufTy).Contents (Elt F)),
    StableHlo.unary main_v0 main_v2 ((extractStridedSlice S15 ![1] · slices_S16_S15_1) : (⟨S16, .f32⟩ : BufTy).Contents (Elt F) → (⟨S15, .f32⟩ : BufTy).Contents (Elt F)) ]

/-- The softmax of each row. -/
abbrev opsSoft : List (HloOp τ sig (Elt F)) :=
  [ StableHlo.nullary main_cst_1 (constant S_ .f32 0xFF800000#32),
    StableHlo.binary main_arg0 main_cst_1 main_v3 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    StableHlo.nullary main_cst_2 (constant S_ .f32 0xFF800000#32),
    StableHlo.unary main_cst_2 main_v4 (broadcastInDim S1000000 ![] bcast_S_S1000000 : (⟨S_, .f32⟩ : BufTy).Contents (Elt F) → (⟨S1000000, .f32⟩ : BufTy).Contents (Elt F)),
    StableHlo.binary main_v4 main_v3 main_v5 (maximumf : (⟨S1000000, .f32⟩ : BufTy).Contents (Elt F) → (⟨S1000000, .f32⟩ : BufTy).Contents (Elt F) → (⟨S1000000, .f32⟩ : BufTy).Contents (Elt F)),
    StableHlo.unary main_v5 main_v6 (broadcastInDim S1000000x1 ![0] bcast_S1000000_S1000000x1_0 : (⟨S1000000, .f32⟩ : BufTy).Contents (Elt F) → (⟨S1000000x1, .f32⟩ : BufTy).Contents (Elt F)),
    StableHlo.unary main_v6 main_v7 (broadcastInDim S1000000x100 ![0, 1] bcast_S1000000x1_S1000000x100_0_1 : (⟨S1000000x1, .f32⟩ : BufTy).Contents (Elt F) → (⟨S1000000x100, .f32⟩ : BufTy).Contents (Elt F)),
    StableHlo.binary main_arg0 main_v7 main_v8 (subf : (⟨S1000000x100, .f32⟩ : BufTy).Contents (Elt F) → (⟨S1000000x100, .f32⟩ : BufTy).Contents (Elt F) → (⟨S1000000x100, .f32⟩ : BufTy).Contents (Elt F)),
    StableHlo.unary main_v8 main_v9 (Host.exp : (⟨S1000000x100, .f32⟩ : BufTy).Contents (Elt F) → (⟨S1000000x100, .f32⟩ : BufTy).Contents (Elt F)),
    StableHlo.nullary main_cst_3 (constant S_ .f32 0x00000000#32),
    StableHlo.binary main_v9 main_cst_3 main_v10 ((fun x v => Host.reduceAdd x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    StableHlo.unary main_v10 main_v11 (broadcastInDim S1000000x1 ![0] bcast_S1000000_S1000000x1_0 : (⟨S1000000, .f32⟩ : BufTy).Contents (Elt F) → (⟨S1000000x1, .f32⟩ : BufTy).Contents (Elt F)),
    StableHlo.unary main_v11 main_v12 (broadcastInDim S1000000x100 ![0, 1] bcast_S1000000x1_S1000000x100_0_1 : (⟨S1000000x1, .f32⟩ : BufTy).Contents (Elt F) → (⟨S1000000x100, .f32⟩ : BufTy).Contents (Elt F)),
    StableHlo.binary main_v9 main_v12 main_v13 (Host.divf : (⟨S1000000x100, .f32⟩ : BufTy).Contents (Elt F) → (⟨S1000000x100, .f32⟩ : BufTy).Contents (Elt F) → (⟨S1000000x100, .f32⟩ : BufTy).Contents (Elt F)) ]

/-- Each row's confidence and whether its prediction is right. -/
abbrev opsPick : List (HloOp τ sig (Elt F)) :=
  [ StableHlo.nullary main_cst_4 (constant S_ .f32 0xFF800000#32),
    StableHlo.binary main_v13 main_cst_4 main_v14 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    StableHlo.nullary main_call1_v0 (iotaInDim S1000000x100 32 1),
    StableHlo.nullary main_call1_cst (constant S_ .f32 0xFF800000#32),
    StableHlo.nullary main_call1_c (constantI S_ 32 0#32),
    StableHlo.quaternary main_v13 main_call1_v0 main_call1_cst main_call1_c main_call1_v1_0 ((fun x y u v j => (Host.argReduce reducer_argmax_f32_i32 x y u v reducesTo_S1000000x100_S1000000_d1 h_S_ j).1) : (⟨S1000000x100, .f32⟩ : BufTy).Contents (Elt F) → (⟨S1000000x100, .i32⟩ : BufTy).Contents (Elt F) → (⟨S_, .f32⟩ : BufTy).Contents (Elt F) → (⟨S_, .i32⟩ : BufTy).Contents (Elt F) → (⟨S1000000, .f32⟩ : BufTy).Contents (Elt F)),
    StableHlo.quaternary main_v13 main_call1_v0 main_call1_cst main_call1_c main_v15 ((fun x y u v j => (Host.argReduce reducer_argmax_f32_i32 x y u v reducesTo_S1000000x100_S1000000_d1 h_S_ j).2) : (⟨S1000000x100, .f32⟩ : BufTy).Contents (Elt F) → (⟨S1000000x100, .i32⟩ : BufTy).Contents (Elt F) → (⟨S_, .f32⟩ : BufTy).Contents (Elt F) → (⟨S_, .i32⟩ : BufTy).Contents (Elt F) → (⟨S1000000, .i32⟩ : BufTy).Contents (Elt F)),
    StableHlo.binary main_v15 main_arg1 main_v16 (cmpi .eq : (⟨S1000000, .i32⟩ : BufTy).Contents (Elt F) → (⟨S1000000, .i32⟩ : BufTy).Contents (Elt F) → (⟨S1000000, .i1⟩ : BufTy).Contents (Elt F)),
    StableHlo.unary main_v16 main_v17 (uitofp .f32 : (⟨S1000000, .i1⟩ : BufTy).Contents (Elt F) → (⟨S1000000, .f32⟩ : BufTy).Contents (Elt F)) ]

/-- Which rows fall in which bin. -/
abbrev opsBin : List (HloOp τ sig (Elt F)) :=
  [ StableHlo.unary main_v14 main_v18 (broadcastInDim S1x1000000 ![1] bcast_S1000000_S1x1000000_1 : (⟨S1000000, .f32⟩ : BufTy).Contents (Elt F) → (⟨S1x1000000, .f32⟩ : BufTy).Contents (Elt F)),
    StableHlo.unary main_v1 main_v19 (broadcastInDim S15x1 ![0] bcast_S15_S15x1_0 : (⟨S15, .f32⟩ : BufTy).Contents (Elt F) → (⟨S15x1, .f32⟩ : BufTy).Contents (Elt F)),
    StableHlo.unary main_v18 main_v20 (broadcastInDim S15x1000000 ![0, 1] bcast_S1x1000000_S15x1000000_0_1 : (⟨S1x1000000, .f32⟩ : BufTy).Contents (Elt F) → (⟨S15x1000000, .f32⟩ : BufTy).Contents (Elt F)),
    StableHlo.unary main_v19 main_v21 (broadcastInDim S15x1000000 ![0, 1] bcast_S15x1_S15x1000000_0_1 : (⟨S15x1, .f32⟩ : BufTy).Contents (Elt F) → (⟨S15x1000000, .f32⟩ : BufTy).Contents (Elt F)),
    StableHlo.binary main_v20 main_v21 main_v22 (cmpf .ogt : (⟨S15x1000000, .f32⟩ : BufTy).Contents (Elt F) → (⟨S15x1000000, .f32⟩ : BufTy).Contents (Elt F) → (⟨S15x1000000, .i1⟩ : BufTy).Contents (Elt F)),
    StableHlo.unary main_v14 main_v23 (broadcastInDim S1x1000000 ![1] bcast_S1000000_S1x1000000_1 : (⟨S1000000, .f32⟩ : BufTy).Contents (Elt F) → (⟨S1x1000000, .f32⟩ : BufTy).Contents (Elt F)),
    StableHlo.unary main_v2 main_v24 (broadcastInDim S15x1 ![0] bcast_S15_S15x1_0 : (⟨S15, .f32⟩ : BufTy).Contents (Elt F) → (⟨S15x1, .f32⟩ : BufTy).Contents (Elt F)),
    StableHlo.unary main_v23 main_v25 (broadcastInDim S15x1000000 ![0, 1] bcast_S1x1000000_S15x1000000_0_1 : (⟨S1x1000000, .f32⟩ : BufTy).Contents (Elt F) → (⟨S15x1000000, .f32⟩ : BufTy).Contents (Elt F)),
    StableHlo.unary main_v24 main_v26 (broadcastInDim S15x1000000 ![0, 1] bcast_S15x1_S15x1000000_0_1 : (⟨S15x1, .f32⟩ : BufTy).Contents (Elt F) → (⟨S15x1000000, .f32⟩ : BufTy).Contents (Elt F)),
    StableHlo.binary main_v25 main_v26 main_v27 (cmpf .ole : (⟨S15x1000000, .f32⟩ : BufTy).Contents (Elt F) → (⟨S15x1000000, .f32⟩ : BufTy).Contents (Elt F) → (⟨S15x1000000, .i1⟩ : BufTy).Contents (Elt F)),
    StableHlo.binary main_v22 main_v27 main_v28 (andi : (⟨S15x1000000, .i1⟩ : BufTy).Contents (Elt F) → (⟨S15x1000000, .i1⟩ : BufTy).Contents (Elt F) → (⟨S15x1000000, .i1⟩ : BufTy).Contents (Elt F)),
    StableHlo.unary main_v28 main_v29 (uitofp .f32 : (⟨S15x1000000, .i1⟩ : BufTy).Contents (Elt F) → (⟨S15x1000000, .f32⟩ : BufTy).Contents (Elt F)) ]

/-- How many rows each bin holds, and that number's share and divisor. -/
abbrev opsCount : List (HloOp τ sig (Elt F)) :=
  [ StableHlo.nullary main_cst_5 (constant S_ .f32 0x00000000#32),
    StableHlo.binary main_v29 main_cst_5 main_v30 ((fun x v => Host.reduceAdd x v reducesTo_S15x1000000_S15_d1 h_S_) : (⟨S15x1000000, .f32⟩ : BufTy).Contents (Elt F) → (⟨S_, .f32⟩ : BufTy).Contents (Elt F) → (⟨S15, .f32⟩ : BufTy).Contents (Elt F)),
    StableHlo.nullary main_cst_6 (constant S_ .f32 0x49742400#32),
    StableHlo.unary main_cst_6 main_v31 (broadcastInDim S15 ![] bcast_S_S15 : (⟨S_, .f32⟩ : BufTy).Contents (Elt F) → (⟨S15, .f32⟩ : BufTy).Contents (Elt F)),
    StableHlo.binary main_v30 main_v31 main_v32 (Host.divf : (⟨S15, .f32⟩ : BufTy).Contents (Elt F) → (⟨S15, .f32⟩ : BufTy).Contents (Elt F) → (⟨S15, .f32⟩ : BufTy).Contents (Elt F)),
    StableHlo.nullary main_cst_7 (constant S_ .f32 0x3F800000#32),
    StableHlo.unary main_cst_7 main_v33 (broadcastInDim S15 ![] bcast_S_S15 : (⟨S_, .f32⟩ : BufTy).Contents (Elt F) → (⟨S15, .f32⟩ : BufTy).Contents (Elt F)),
    StableHlo.binary main_v30 main_v33 main_v34 (maximumf : (⟨S15, .f32⟩ : BufTy).Contents (Elt F) → (⟨S15, .f32⟩ : BufTy).Contents (Elt F) → (⟨S15, .f32⟩ : BufTy).Contents (Elt F)) ]

/-- Each bin's mean confidence less its accuracy. -/
abbrev opsGap : List (HloOp τ sig (Elt F)) :=
  [ StableHlo.unary main_v17 main_v35 (broadcastInDim S1x1000000 ![1] bcast_S1000000_S1x1000000_1 : (⟨S1000000, .f32⟩ : BufTy).Contents (Elt F) → (⟨S1x1000000, .f32⟩ : BufTy).Contents (Elt F)),
    StableHlo.unary main_v35 main_v36 (broadcastInDim S15x1000000 ![0, 1] bcast_S1x1000000_S15x1000000_0_1 : (⟨S1x1000000, .f32⟩ : BufTy).Contents (Elt F) → (⟨S15x1000000, .f32⟩ : BufTy).Contents (Elt F)),
    StableHlo.binary main_v36 main_v29 main_v37 (mulf : (⟨S15x1000000, .f32⟩ : BufTy).Contents (Elt F) → (⟨S15x1000000, .f32⟩ : BufTy).Contents (Elt F) → (⟨S15x1000000, .f32⟩ : BufTy).Contents (Elt F)),
    StableHlo.nullary main_cst_8 (constant S_ .f32 0x00000000#32),
    StableHlo.binary main_v37 main_cst_8 main_v38 ((fun x v => Host.reduceAdd x v reducesTo_S15x1000000_S15_d1 h_S_) : (⟨S15x1000000, .f32⟩ : BufTy).Contents (Elt F) → (⟨S_, .f32⟩ : BufTy).Contents (Elt F) → (⟨S15, .f32⟩ : BufTy).Contents (Elt F)),
    StableHlo.binary main_v38 main_v34 main_v39 (Host.divf : (⟨S15, .f32⟩ : BufTy).Contents (Elt F) → (⟨S15, .f32⟩ : BufTy).Contents (Elt F) → (⟨S15, .f32⟩ : BufTy).Contents (Elt F)),
    StableHlo.unary main_v14 main_v40 (broadcastInDim S1x1000000 ![1] bcast_S1000000_S1x1000000_1 : (⟨S1000000, .f32⟩ : BufTy).Contents (Elt F) → (⟨S1x1000000, .f32⟩ : BufTy).Contents (Elt F)),
    StableHlo.unary main_v40 main_v41 (broadcastInDim S15x1000000 ![0, 1] bcast_S1x1000000_S15x1000000_0_1 : (⟨S1x1000000, .f32⟩ : BufTy).Contents (Elt F) → (⟨S15x1000000, .f32⟩ : BufTy).Contents (Elt F)),
    StableHlo.binary main_v41 main_v29 main_v42 (mulf : (⟨S15x1000000, .f32⟩ : BufTy).Contents (Elt F) → (⟨S15x1000000, .f32⟩ : BufTy).Contents (Elt F) → (⟨S15x1000000, .f32⟩ : BufTy).Contents (Elt F)),
    StableHlo.nullary main_cst_9 (constant S_ .f32 0x00000000#32),
    StableHlo.binary main_v42 main_cst_9 main_v43 ((fun x v => Host.reduceAdd x v reducesTo_S15x1000000_S15_d1 h_S_) : (⟨S15x1000000, .f32⟩ : BufTy).Contents (Elt F) → (⟨S_, .f32⟩ : BufTy).Contents (Elt F) → (⟨S15, .f32⟩ : BufTy).Contents (Elt F)),
    StableHlo.binary main_v43 main_v34 main_v44 (Host.divf : (⟨S15, .f32⟩ : BufTy).Contents (Elt F) → (⟨S15, .f32⟩ : BufTy).Contents (Elt F) → (⟨S15, .f32⟩ : BufTy).Contents (Elt F)),
    StableHlo.nullary main_cst_10 (constant S_ .f32 0x00000000#32),
    StableHlo.unary main_cst_10 main_v45 (broadcastInDim S15 ![] bcast_S_S15 : (⟨S_, .f32⟩ : BufTy).Contents (Elt F) → (⟨S15, .f32⟩ : BufTy).Contents (Elt F)),
    StableHlo.binary main_v30 main_v45 main_v46 (cmpf .ogt : (⟨S15, .f32⟩ : BufTy).Contents (Elt F) → (⟨S15, .f32⟩ : BufTy).Contents (Elt F) → (⟨S15, .i1⟩ : BufTy).Contents (Elt F)),
    StableHlo.binary main_v44 main_v39 main_v47 (subf : (⟨S15, .f32⟩ : BufTy).Contents (Elt F) → (⟨S15, .f32⟩ : BufTy).Contents (Elt F) → (⟨S15, .f32⟩ : BufTy).Contents (Elt F)) ]

/-- The bins' terms, summed. -/
abbrev opsSum : List (HloOp τ sig (Elt F)) :=
  [ StableHlo.unary main_v47 main_v48 (Host.absf : (⟨S15, .f32⟩ : BufTy).Contents (Elt F) → (⟨S15, .f32⟩ : BufTy).Contents (Elt F)),
    StableHlo.binary main_v48 main_v32 main_v49 (mulf : (⟨S15, .f32⟩ : BufTy).Contents (Elt F) → (⟨S15, .f32⟩ : BufTy).Contents (Elt F) → (⟨S15, .f32⟩ : BufTy).Contents (Elt F)),
    StableHlo.nullary main_cst_11 (constant S_ .f32 0x00000000#32),
    StableHlo.unary main_cst_11 main_call2_v0 (id : (⟨S_, .f32⟩ : BufTy).Contents (Elt F) → (⟨S_, .f32⟩ : BufTy).Contents (Elt F)),
    StableHlo.unary main_call2_v0 main_call2_v1 ((broadcastInDim S15 ![] bcast_S_S15) : (⟨S_, .f32⟩ : BufTy).Contents (Elt F) → (⟨S15, .f32⟩ : BufTy).Contents (Elt F)),
    StableHlo.ternary main_v46 main_v49 main_call2_v1 main_v50 (select : (⟨S15, .i1⟩ : BufTy).Contents (Elt F) → (⟨S15, .f32⟩ : BufTy).Contents (Elt F) → (⟨S15, .f32⟩ : BufTy).Contents (Elt F) → (⟨S15, .f32⟩ : BufTy).Contents (Elt F)),
    StableHlo.nullary main_cst_12 (constant S_ .f32 0x00000000#32),
    StableHlo.binary main_v50 main_cst_12 main_v51 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)),
    StableHlo.unary main_v51 main_v52 (broadcastInDim S1 ![] bcast_S_S1 : (⟨S_, .f32⟩ : BufTy).Contents (Elt F) → (⟨S1, .f32⟩ : BufTy).Contents (Elt F)) ]

/-- All of them. -/
abbrev ops : List (HloOp τ sig (Elt F)) := opsEdges ++ (opsSoft ++ (opsPick ++ (opsBin ++ (opsCount ++ (opsGap ++ (opsSum))))))

/-- @main runs them in order. -/
theorem main_eq (d : Dev nD) : main (F := F) d = StableHlo.seq ops := by
  chain_rfl

theorem opsEdges_writes : ((opsEdges : List (HloOp τ sig (Elt F)))).Forall fun op => op.writes ⊆ (([main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0, main_v1, main_v2] : List (Ref sig .tc)).map (Proc.devRef (τ := τ) .tc)).toFinset :=
  StableHlo.forall_writes_sub_of_map rfl

theorem opsSoft_writes : ((opsSoft : List (HloOp τ sig (Elt F)))).Forall fun op => op.writes ⊆ (([main_cst_1, main_v3, main_cst_2, main_v4, main_v5, main_v6, main_v7, main_v8, main_v9, main_cst_3, main_v10, main_v11, main_v12, main_v13] : List (Ref sig .tc)).map (Proc.devRef (τ := τ) .tc)).toFinset :=
  StableHlo.forall_writes_sub_of_map rfl

theorem opsPick_writes : ((opsPick : List (HloOp τ sig (Elt F)))).Forall fun op => op.writes ⊆ (([main_cst_4, main_v14, main_call1_v0, main_call1_cst, main_call1_c, main_call1_v1_0, main_v15, main_v16, main_v17] : List (Ref sig .tc)).map (Proc.devRef (τ := τ) .tc)).toFinset :=
  StableHlo.forall_writes_sub_of_map rfl

theorem opsBin_writes : ((opsBin : List (HloOp τ sig (Elt F)))).Forall fun op => op.writes ⊆ (([main_v18, main_v19, main_v20, main_v21, main_v22, main_v23, main_v24, main_v25, main_v26, main_v27, main_v28, main_v29] : List (Ref sig .tc)).map (Proc.devRef (τ := τ) .tc)).toFinset :=
  StableHlo.forall_writes_sub_of_map rfl

theorem opsCount_writes : ((opsCount : List (HloOp τ sig (Elt F)))).Forall fun op => op.writes ⊆ (([main_cst_5, main_v30, main_cst_6, main_v31, main_v32, main_cst_7, main_v33, main_v34] : List (Ref sig .tc)).map (Proc.devRef (τ := τ) .tc)).toFinset :=
  StableHlo.forall_writes_sub_of_map rfl

theorem opsGap_writes : ((opsGap : List (HloOp τ sig (Elt F)))).Forall fun op => op.writes ⊆ (([main_v35, main_v36, main_v37, main_cst_8, main_v38, main_v39, main_v40, main_v41, main_v42, main_cst_9, main_v43, main_v44, main_cst_10, main_v45, main_v46, main_v47] : List (Ref sig .tc)).map (Proc.devRef (τ := τ) .tc)).toFinset :=
  StableHlo.forall_writes_sub_of_map rfl

theorem opsSum_writes : ((opsSum : List (HloOp τ sig (Elt F)))).Forall fun op => op.writes ⊆ (([main_v48, main_v49, main_cst_11, main_call2_v0, main_call2_v1, main_v50, main_cst_12, main_v51, main_v52] : List (Ref sig .tc)).map (Proc.devRef (τ := τ) .tc)).toFinset :=
  StableHlo.forall_writes_sub_of_map rfl

end Cert.Proof.Ref
-- ==== Proof.Ref.Value.lean ====
/-
  The reference's value: what each of the seven lists computes, as a function of what it reads.
-/
module

public import proofs.«01_k».proof.Proof.Ref.Ops
public import Idealize.ShloMosaic.Lib.StableHlo.RunHlo
public import Idealize.ShloMosaic.Lib.Pipeline.Regions
public import Idealize.ShloMosaic.Lib.Quiescent
public import Idealize.ShloMosaic.Lib.Claim

@[expose] public section

set_option maxRecDepth 16384

noncomputable section

namespace Cert.Proof.Ref

open Cert.ReferenceIdeal Cert.ReferenceIdeal.Gen
open Idealize.ShloMosaic Idealize.SL.Sem
open Idealize.ShloMosaic.TcCoe

variable {F : FTy → Type} [FloatOps F]

/-- The bins' lower edges. -/
def lows : (⟨S15, .f32⟩ : BufTy).Contents (Elt F) :=
  let cst : (⟨S_, .f32⟩ : BufTy).Contents (Elt F) := constant S_ .f32 0x00000000#32
  let cst_0 : (⟨S_, .f32⟩ : BufTy).Contents (Elt F) := constant S_ .f32 0x3F800000#32
  let call0_v0 : (⟨S_, .f32⟩ : BufTy).Contents (Elt F) := id cst
  let call0_v1 : (⟨S_, .f32⟩ : BufTy).Contents (Elt F) := id cst_0
  let call0_v4 : (⟨S15, .f32⟩ : BufTy).Contents (Elt F) := sitofp .f32 (iotaInDim S15 32 0)
  let call0_cst_0 : (⟨S_, .f32⟩ : BufTy).Contents (Elt F) := constant S_ .f32 0x41700000#32
  let call0_v5 : (⟨S15, .f32⟩ : BufTy).Contents (Elt F) := ((broadcastInDim S15 ![] bcast_S_S15)) call0_cst_0
  let call0_v6 : (⟨S15, .f32⟩ : BufTy).Contents (Elt F) := Host.divf call0_v4 call0_v5
  let call0_v7 : (⟨S1, .f32⟩ : BufTy).Contents (Elt F) := shapeCast S1 call0_v0 shapeCasts_S_S1
  let call0_cst_1 : (⟨S_, .f32⟩ : BufTy).Contents (Elt F) := constant S_ .f32 0x3F800000#32
  let call0_v8 : (⟨S15, .f32⟩ : BufTy).Contents (Elt F) := ((broadcastInDim S15 ![] bcast_S_S15)) call0_cst_1
  let call0_v9 : (⟨S15, .f32⟩ : BufTy).Contents (Elt F) := subf call0_v8 call0_v6
  let call0_v10 : (⟨S15, .f32⟩ : BufTy).Contents (Elt F) := ((broadcastInDim S15 ![0] bcast_S1_S15_0)) call0_v7
  let call0_v11 : (⟨S15, .f32⟩ : BufTy).Contents (Elt F) := mulf call0_v10 call0_v9
  let call0_v12 : (⟨S1, .f32⟩ : BufTy).Contents (Elt F) := shapeCast S1 call0_v1 shapeCasts_S_S1
  let call0_v13 : (⟨S15, .f32⟩ : BufTy).Contents (Elt F) := ((broadcastInDim S15 ![0] bcast_S1_S15_0)) call0_v12
  let call0_v14 : (⟨S15, .f32⟩ : BufTy).Contents (Elt F) := mulf call0_v13 call0_v6
  let call0_v15 : (⟨S15, .f32⟩ : BufTy).Contents (Elt F) := addf call0_v11 call0_v14
  let call0_v16 : (⟨S1, .f32⟩ : BufTy).Contents (Elt F) := ((broadcastInDim S1 ![] bcast_S_S1)) call0_v1
  let v0 : (⟨S16, .f32⟩ : BufTy).Contents (Elt F) := ((fun a b => concatenate S16 0 [⟨S15, a⟩, ⟨S1, b⟩] concatenates_S15_S1_S16_d0)) call0_v15 call0_v16
  extractStridedSlice S15 ![0] v0 slices_S16_S15_0

theorem lows_eq (V : Valuation τ sig (Elt F)) : StableHlo.after opsEdges V (Proc.devRef .tc main_v1) = lows  := by
  after_results
  rfl

/-- The bins' upper edges. -/
def highs : (⟨S15, .f32⟩ : BufTy).Contents (Elt F) :=
  let cst : (⟨S_, .f32⟩ : BufTy).Contents (Elt F) := constant S_ .f32 0x00000000#32
  let cst_0 : (⟨S_, .f32⟩ : BufTy).Contents (Elt F) := constant S_ .f32 0x3F800000#32
  let call0_v0 : (⟨S_, .f32⟩ : BufTy).Contents (Elt F) := id cst
  let call0_v1 : (⟨S_, .f32⟩ : BufTy).Contents (Elt F) := id cst_0
  let call0_v4 : (⟨S15, .f32⟩ : BufTy).Contents (Elt F) := sitofp .f32 (iotaInDim S15 32 0)
  let call0_cst_0 : (⟨S_, .f32⟩ : BufTy).Contents (Elt F) := constant S_ .f32 0x41700000#32
  let call0_v5 : (⟨S15, .f32⟩ : BufTy).Contents (Elt F) := ((broadcastInDim S15 ![] bcast_S_S15)) call0_cst_0
  let call0_v6 : (⟨S15, .f32⟩ : BufTy).Contents (Elt F) := Host.divf call0_v4 call0_v5
  let call0_v7 : (⟨S1, .f32⟩ : BufTy).Contents (Elt F) := shapeCast S1 call0_v0 shapeCasts_S_S1
  let call0_cst_1 : (⟨S_, .f32⟩ : BufTy).Contents (Elt F) := constant S_ .f32 0x3F800000#32
  let call0_v8 : (⟨S15, .f32⟩ : BufTy).Contents (Elt F) := ((broadcastInDim S15 ![] bcast_S_S15)) call0_cst_1
  let call0_v9 : (⟨S15, .f32⟩ : BufTy).Contents (Elt F) := subf call0_v8 call0_v6
  let call0_v10 : (⟨S15, .f32⟩ : BufTy).Contents (Elt F) := ((broadcastInDim S15 ![0] bcast_S1_S15_0)) call0_v7
  let call0_v11 : (⟨S15, .f32⟩ : BufTy).Contents (Elt F) := mulf call0_v10 call0_v9
  let call0_v12 : (⟨S1, .f32⟩ : BufTy).Contents (Elt F) := shapeCast S1 call0_v1 shapeCasts_S_S1
  let call0_v13 : (⟨S15, .f32⟩ : BufTy).Contents (Elt F) := ((broadcastInDim S15 ![0] bcast_S1_S15_0)) call0_v12
  let call0_v14 : (⟨S15, .f32⟩ : BufTy).Contents (Elt F) := mulf call0_v13 call0_v6
  let call0_v15 : (⟨S15, .f32⟩ : BufTy).Contents (Elt F) := addf call0_v11 call0_v14
  let call0_v16 : (⟨S1, .f32⟩ : BufTy).Contents (Elt F) := ((broadcastInDim S1 ![] bcast_S_S1)) call0_v1
  let v0 : (⟨S16, .f32⟩ : BufTy).Contents (Elt F) := ((fun a b => concatenate S16 0 [⟨S15, a⟩, ⟨S1, b⟩] concatenates_S15_S1_S16_d0)) call0_v15 call0_v16
  extractStridedSlice S15 ![1] v0 slices_S16_S15_1

theorem highs_eq (V : Valuation τ sig (Elt F)) : StableHlo.after opsEdges V (Proc.devRef .tc main_v2) = highs  := by
  after_results
  rfl

/-- The softmax of each row. -/
def soft (arg0 : (⟨S1000000x100, .f32⟩ : BufTy).Contents (Elt F)) : (⟨S1000000x100, .f32⟩ : BufTy).Contents (Elt F) :=
  let cst_1 : (⟨S_, .f32⟩ : BufTy).Contents (Elt F) := constant S_ .f32 0xFF800000#32
  let v3 : (⟨S1000000, .f32⟩ : BufTy).Contents (Elt F) := ((fun x v => Host.reduce FloatOps.maximumf x v reducesTo_S1000000x100_S1000000_d1 h_S_)) arg0 cst_1
  let cst_2 : (⟨S_, .f32⟩ : BufTy).Contents (Elt F) := constant S_ .f32 0xFF800000#32
  let v4 : (⟨S1000000, .f32⟩ : BufTy).Contents (Elt F) := (broadcastInDim S1000000 ![] bcast_S_S1000000) cst_2
  let v5 : (⟨S1000000, .f32⟩ : BufTy).Contents (Elt F) := maximumf v4 v3
  let v6 : (⟨S1000000x1, .f32⟩ : BufTy).Contents (Elt F) := (broadcastInDim S1000000x1 ![0] bcast_S1000000_S1000000x1_0) v5
  let v7 : (⟨S1000000x100, .f32⟩ : BufTy).Contents (Elt F) := (broadcastInDim S1000000x100 ![0, 1] bcast_S1000000x1_S1000000x100_0_1) v6
  let v8 : (⟨S1000000x100, .f32⟩ : BufTy).Contents (Elt F) := subf arg0 v7
  let v9 : (⟨S1000000x100, .f32⟩ : BufTy).Contents (Elt F) := Host.exp v8
  let cst_3 : (⟨S_, .f32⟩ : BufTy).Contents (Elt F) := constant S_ .f32 0x00000000#32
  let v10 : (⟨S1000000, .f32⟩ : BufTy).Contents (Elt F) := ((fun x v => Host.reduceAdd x v reducesTo_S1000000x100_S1000000_d1 h_S_)) v9 cst_3
  let v11 : (⟨S1000000x1, .f32⟩ : BufTy).Contents (Elt F) := (broadcastInDim S1000000x1 ![0] bcast_S1000000_S1000000x1_0) v10
  let v12 : (⟨S1000000x100, .f32⟩ : BufTy).Contents (Elt F) := (broadcastInDim S1000000x100 ![0, 1] bcast_S1000000x1_S1000000x100_0_1) v11
  Host.divf v9 v12

theorem soft_eq (V : Valuation τ sig (Elt F)) : StableHlo.after opsSoft V (Proc.devRef .tc main_v13) = soft (V (Proc.devRef .tc main_arg0)) := by
  after_results
  rfl

/-- Each row's confidence. -/
def conf (v13 : (⟨S1000000x100, .f32⟩ : BufTy).Contents (Elt F)) : (⟨S1000000, .f32⟩ : BufTy).Contents (Elt F) :=
  let cst_4 : (⟨S_, .f32⟩ : BufTy).Contents (Elt F) := constant S_ .f32 0xFF800000#32
  ((fun x v => Host.reduce FloatOps.maximumf x v reducesTo_S1000000x100_S1000000_d1 h_S_)) v13 cst_4

theorem conf_eq (V : Valuation τ sig (Elt F)) : StableHlo.after opsPick V (Proc.devRef .tc main_v14) = conf (V (Proc.devRef .tc main_v13)) := by
  after_results
  rfl

/-- Whether each row's prediction is right. -/
def right (v13 : (⟨S1000000x100, .f32⟩ : BufTy).Contents (Elt F)) (arg1 : (⟨S1000000, .i32⟩ : BufTy).Contents (Elt F)) : (⟨S1000000, .f32⟩ : BufTy).Contents (Elt F) :=
  let call1_v0 : (⟨S1000000x100, .i32⟩ : BufTy).Contents (Elt F) := iotaInDim S1000000x100 32 1
  let call1_cst : (⟨S_, .f32⟩ : BufTy).Contents (Elt F) := constant S_ .f32 0xFF800000#32
  let call1_c : (⟨S_, .i32⟩ : BufTy).Contents (Elt F) := constantI S_ 32 0#32
  let v15 : (⟨S1000000, .i32⟩ : BufTy).Contents (Elt F) := ((fun x y u v j => (Host.argReduce reducer_argmax_f32_i32 x y u v reducesTo_S1000000x100_S1000000_d1 h_S_ j).2)) v13 call1_v0 call1_cst call1_c
  let v16 : (⟨S1000000, .i1⟩ : BufTy).Contents (Elt F) := (cmpi .eq) v15 arg1
  (uitofp .f32) v16

theorem right_eq (V : Valuation τ sig (Elt F)) : StableHlo.after opsPick V (Proc.devRef .tc main_v17) = right (V (Proc.devRef .tc main_v13)) (V (Proc.devRef .tc main_arg1)) := by
  after_results
  rfl

/-- Which rows fall in which bin. -/
def inBin (v14 : (⟨S1000000, .f32⟩ : BufTy).Contents (Elt F)) (v1 : (⟨S15, .f32⟩ : BufTy).Contents (Elt F)) (v2 : (⟨S15, .f32⟩ : BufTy).Contents (Elt F)) : (⟨S15x1000000, .f32⟩ : BufTy).Contents (Elt F) :=
  let v18 : (⟨S1x1000000, .f32⟩ : BufTy).Contents (Elt F) := (broadcastInDim S1x1000000 ![1] bcast_S1000000_S1x1000000_1) v14
  let v19 : (⟨S15x1, .f32⟩ : BufTy).Contents (Elt F) := (broadcastInDim S15x1 ![0] bcast_S15_S15x1_0) v1
  let v20 : (⟨S15x1000000, .f32⟩ : BufTy).Contents (Elt F) := (broadcastInDim S15x1000000 ![0, 1] bcast_S1x1000000_S15x1000000_0_1) v18
  let v21 : (⟨S15x1000000, .f32⟩ : BufTy).Contents (Elt F) := (broadcastInDim S15x1000000 ![0, 1] bcast_S15x1_S15x1000000_0_1) v19
  let v22 : (⟨S15x1000000, .i1⟩ : BufTy).Contents (Elt F) := (cmpf .ogt) v20 v21
  let v23 : (⟨S1x1000000, .f32⟩ : BufTy).Contents (Elt F) := (broadcastInDim S1x1000000 ![1] bcast_S1000000_S1x1000000_1) v14
  let v24 : (⟨S15x1, .f32⟩ : BufTy).Contents (Elt F) := (broadcastInDim S15x1 ![0] bcast_S15_S15x1_0) v2
  let v25 : (⟨S15x1000000, .f32⟩ : BufTy).Contents (Elt F) := (broadcastInDim S15x1000000 ![0, 1] bcast_S1x1000000_S15x1000000_0_1) v23
  let v26 : (⟨S15x1000000, .f32⟩ : BufTy).Contents (Elt F) := (broadcastInDim S15x1000000 ![0, 1] bcast_S15x1_S15x1000000_0_1) v24
  let v27 : (⟨S15x1000000, .i1⟩ : BufTy).Contents (Elt F) := (cmpf .ole) v25 v26
  let v28 : (⟨S15x1000000, .i1⟩ : BufTy).Contents (Elt F) := andi v22 v27
  (uitofp .f32) v28

theorem inBin_eq (V : Valuation τ sig (Elt F)) : StableHlo.after opsBin V (Proc.devRef .tc main_v29) = inBin (V (Proc.devRef .tc main_v14)) (V (Proc.devRef .tc main_v1)) (V (Proc.devRef .tc main_v2)) := by
  after_results
  rfl

/-- How many rows each bin holds. -/
def count (v29 : (⟨S15x1000000, .f32⟩ : BufTy).Contents (Elt F)) : (⟨S15, .f32⟩ : BufTy).Contents (Elt F) :=
  let cst_5 : (⟨S_, .f32⟩ : BufTy).Contents (Elt F) := constant S_ .f32 0x00000000#32
  ((fun x v => Host.reduceAdd x v reducesTo_S15x1000000_S15_d1 h_S_)) v29 cst_5

theorem count_eq (V : Valuation τ sig (Elt F)) : StableHlo.after opsCount V (Proc.devRef .tc main_v30) = count (V (Proc.devRef .tc main_v29)) := by
  after_results
  rfl

/-- That number's share of all rows. -/
def share (v29 : (⟨S15x1000000, .f32⟩ : BufTy).Contents (Elt F)) : (⟨S15, .f32⟩ : BufTy).Contents (Elt F) :=
  let cst_5 : (⟨S_, .f32⟩ : BufTy).Contents (Elt F) := constant S_ .f32 0x00000000#32
  let v30 : (⟨S15, .f32⟩ : BufTy).Contents (Elt F) := ((fun x v => Host.reduceAdd x v reducesTo_S15x1000000_S15_d1 h_S_)) v29 cst_5
  let cst_6 : (⟨S_, .f32⟩ : BufTy).Contents (Elt F) := constant S_ .f32 0x49742400#32
  let v31 : (⟨S15, .f32⟩ : BufTy).Contents (Elt F) := (broadcastInDim S15 ![] bcast_S_S15) cst_6
  Host.divf v30 v31

theorem share_eq (V : Valuation τ sig (Elt F)) : StableHlo.after opsCount V (Proc.devRef .tc main_v32) = share (V (Proc.devRef .tc main_v29)) := by
  after_results
  rfl

/-- The number, at least 1. -/
def divisor (v29 : (⟨S15x1000000, .f32⟩ : BufTy).Contents (Elt F)) : (⟨S15, .f32⟩ : BufTy).Contents (Elt F) :=
  let cst_5 : (⟨S_, .f32⟩ : BufTy).Contents (Elt F) := constant S_ .f32 0x00000000#32
  let v30 : (⟨S15, .f32⟩ : BufTy).Contents (Elt F) := ((fun x v => Host.reduceAdd x v reducesTo_S15x1000000_S15_d1 h_S_)) v29 cst_5
  let cst_7 : (⟨S_, .f32⟩ : BufTy).Contents (Elt F) := constant S_ .f32 0x3F800000#32
  let v33 : (⟨S15, .f32⟩ : BufTy).Contents (Elt F) := (broadcastInDim S15 ![] bcast_S_S15) cst_7
  maximumf v30 v33

theorem divisor_eq (V : Valuation τ sig (Elt F)) : StableHlo.after opsCount V (Proc.devRef .tc main_v34) = divisor (V (Proc.devRef .tc main_v29)) := by
  after_results
  rfl

/-- A bin's mean confidence less its accuracy. -/
def gap (v14 : (⟨S1000000, .f32⟩ : BufTy).Contents (Elt F)) (v17 : (⟨S1000000, .f32⟩ : BufTy).Contents (Elt F)) (v29 : (⟨S15x1000000, .f32⟩ : BufTy).Contents (Elt F)) (v34 : (⟨S15, .f32⟩ : BufTy).Contents (Elt F)) : (⟨S15, .f32⟩ : BufTy).Contents (Elt F) :=
  let v35 : (⟨S1x1000000, .f32⟩ : BufTy).Contents (Elt F) := (broadcastInDim S1x1000000 ![1] bcast_S1000000_S1x1000000_1) v17
  let v36 : (⟨S15x1000000, .f32⟩ : BufTy).Contents (Elt F) := (broadcastInDim S15x1000000 ![0, 1] bcast_S1x1000000_S15x1000000_0_1) v35
  let v37 : (⟨S15x1000000, .f32⟩ : BufTy).Contents (Elt F) := mulf v36 v29
  let cst_8 : (⟨S_, .f32⟩ : BufTy).Contents (Elt F) := constant S_ .f32 0x00000000#32
  let v38 : (⟨S15, .f32⟩ : BufTy).Contents (Elt F) := ((fun x v => Host.reduceAdd x v reducesTo_S15x1000000_S15_d1 h_S_)) v37 cst_8
  let v39 : (⟨S15, .f32⟩ : BufTy).Contents (Elt F) := Host.divf v38 v34
  let v40 : (⟨S1x1000000, .f32⟩ : BufTy).Contents (Elt F) := (broadcastInDim S1x1000000 ![1] bcast_S1000000_S1x1000000_1) v14
  let v41 : (⟨S15x1000000, .f32⟩ : BufTy).Contents (Elt F) := (broadcastInDim S15x1000000 ![0, 1] bcast_S1x1000000_S15x1000000_0_1) v40
  let v42 : (⟨S15x1000000, .f32⟩ : BufTy).Contents (Elt F) := mulf v41 v29
  let cst_9 : (⟨S_, .f32⟩ : BufTy).Contents (Elt F) := constant S_ .f32 0x00000000#32
  let v43 : (⟨S15, .f32⟩ : BufTy).Contents (Elt F) := ((fun x v => Host.reduceAdd x v reducesTo_S15x1000000_S15_d1 h_S_)) v42 cst_9
  let v44 : (⟨S15, .f32⟩ : BufTy).Contents (Elt F) := Host.divf v43 v34
  subf v44 v39

theorem gap_eq (V : Valuation τ sig (Elt F)) : StableHlo.after opsGap V (Proc.devRef .tc main_v47) = gap (V (Proc.devRef .tc main_v14)) (V (Proc.devRef .tc main_v17)) (V (Proc.devRef .tc main_v29)) (V (Proc.devRef .tc main_v34)) := by
  after_results
  rfl

/-- Whether a bin holds a row. -/
def some (v30 : (⟨S15, .f32⟩ : BufTy).Contents (Elt F)) : (⟨S15, .i1⟩ : BufTy).Contents (Elt F) :=
  let cst_10 : (⟨S_, .f32⟩ : BufTy).Contents (Elt F) := constant S_ .f32 0x00000000#32
  let v45 : (⟨S15, .f32⟩ : BufTy).Contents (Elt F) := (broadcastInDim S15 ![] bcast_S_S15) cst_10
  (cmpf .ogt) v30 v45

theorem some_eq (V : Valuation τ sig (Elt F)) : StableHlo.after opsGap V (Proc.devRef .tc main_v46) = some (V (Proc.devRef .tc main_v30)) := by
  after_results
  rfl

/-- The bins' terms, summed. -/
def total (v32 : (⟨S15, .f32⟩ : BufTy).Contents (Elt F)) (v46 : (⟨S15, .i1⟩ : BufTy).Contents (Elt F)) (v47 : (⟨S15, .f32⟩ : BufTy).Contents (Elt F)) : (⟨S1, .f32⟩ : BufTy).Contents (Elt F) :=
  let v48 : (⟨S15, .f32⟩ : BufTy).Contents (Elt F) := Host.absf v47
  let v49 : (⟨S15, .f32⟩ : BufTy).Contents (Elt F) := mulf v48 v32
  let cst_11 : (⟨S_, .f32⟩ : BufTy).Contents (Elt F) := constant S_ .f32 0x00000000#32
  let call2_v0 : (⟨S_, .f32⟩ : BufTy).Contents (Elt F) := id cst_11
  let call2_v1 : (⟨S15, .f32⟩ : BufTy).Contents (Elt F) := ((broadcastInDim S15 ![] bcast_S_S15)) call2_v0
  let v50 : (⟨S15, .f32⟩ : BufTy).Contents (Elt F) := select v46 v49 call2_v1
  let cst_12 : (⟨S_, .f32⟩ : BufTy).Contents (Elt F) := constant S_ .f32 0x00000000#32
  let v51 : (⟨S_, .f32⟩ : BufTy).Contents (Elt F) := ((fun x v => Host.reduceAdd x v reducesTo_S15_S_d0 h_S_)) v50 cst_12
  (broadcastInDim S1 ![] bcast_S_S1) v51

theorem total_eq (V : Valuation τ sig (Elt F)) : StableHlo.after opsSum V (Proc.devRef .tc main_v52) = total (V (Proc.devRef .tc main_v32)) (V (Proc.devRef .tc main_v46)) (V (Proc.devRef .tc main_v47)) := by
  after_results
  rfl

/-- All of it: the reference's result over its two arguments. -/
def value (x : (⟨S1000000x100, .f32⟩ : BufTy).Contents (Elt F)) (y : (⟨S1000000, .i32⟩ : BufTy).Contents (Elt F)) :
    (⟨S1, .f32⟩ : BufTy).Contents (Elt F) :=
  total (share (inBin (conf (soft x)) lows highs)) (some (count (inBin (conf (soft x)) lows highs)))
    (gap (conf (soft x)) (right (soft x) y) (inBin (conf (soft x)) lows highs) (divisor (inBin (conf (soft x)) lows highs)))

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem opsEdges_keep (V : Valuation τ sig (Elt F)) (r : Ref sig .tc) (h : r ∉ ([main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0, main_v1, main_v2] : List (Ref sig .tc))) :
    StableHlo.after opsEdges V (Proc.devRef .tc r) = V (Proc.devRef .tc r) := StableHlo.after_of_writes_sub _ V opsEdges_writes h

theorem opsSoft_keep (V : Valuation τ sig (Elt F)) (r : Ref sig .tc) (h : r ∉ ([main_cst_1, main_v3, main_cst_2, main_v4, main_v5, main_v6, main_v7, main_v8, main_v9, main_cst_3, main_v10, main_v11, main_v12, main_v13] : List (Ref sig .tc))) :
    StableHlo.after opsSoft V (Proc.devRef .tc r) = V (Proc.devRef .tc r) := StableHlo.after_of_writes_sub _ V opsSoft_writes h

theorem opsPick_keep (V : Valuation τ sig (Elt F)) (r : Ref sig .tc) (h : r ∉ ([main_cst_4, main_v14, main_call1_v0, main_call1_cst, main_call1_c, main_call1_v1_0, main_v15, main_v16, main_v17] : List (Ref sig .tc))) :
    StableHlo.after opsPick V (Proc.devRef .tc r) = V (Proc.devRef .tc r) := StableHlo.after_of_writes_sub _ V opsPick_writes h

theorem opsBin_keep (V : Valuation τ sig (Elt F)) (r : Ref sig .tc) (h : r ∉ ([main_v18, main_v19, main_v20, main_v21, main_v22, main_v23, main_v24, main_v25, main_v26, main_v27, main_v28, main_v29] : List (Ref sig .tc))) :
    StableHlo.after opsBin V (Proc.devRef .tc r) = V (Proc.devRef .tc r) := StableHlo.after_of_writes_sub _ V opsBin_writes h

theorem opsCount_keep (V : Valuation τ sig (Elt F)) (r : Ref sig .tc) (h : r ∉ ([main_cst_5, main_v30, main_cst_6, main_v31, main_v32, main_cst_7, main_v33, main_v34] : List (Ref sig .tc))) :
    StableHlo.after opsCount V (Proc.devRef .tc r) = V (Proc.devRef .tc r) := StableHlo.after_of_writes_sub _ V opsCount_writes h

theorem opsGap_keep (V : Valuation τ sig (Elt F)) (r : Ref sig .tc) (h : r ∉ ([main_v35, main_v36, main_v37, main_cst_8, main_v38, main_v39, main_v40, main_v41, main_v42, main_cst_9, main_v43, main_v44, main_cst_10, main_v45, main_v46, main_v47] : List (Ref sig .tc))) :
    StableHlo.after opsGap V (Proc.devRef .tc r) = V (Proc.devRef .tc r) := StableHlo.after_of_writes_sub _ V opsGap_writes h

theorem opsSum_keep (V : Valuation τ sig (Elt F)) (r : Ref sig .tc) (h : r ∉ ([main_v48, main_v49, main_cst_11, main_call2_v0, main_call2_v1, main_v50, main_cst_12, main_v51, main_v52] : List (Ref sig .tc))) :
    StableHlo.after opsSum V (Proc.devRef .tc r) = V (Proc.devRef .tc r) := StableHlo.after_of_writes_sub _ V opsSum_writes h

theorem ops_sub : (ops : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.binary_bufs_sub ..,
    StableHlo.nullary_bufs_sub .., StableHlo.binary_bufs_sub .., StableHlo.nullary_bufs_sub .., StableHlo.nullary_bufs_sub .., StableHlo.unary_bufs_sub ..,
    StableHlo.binary_bufs_sub .., StableHlo.reshape_bufs_sub .., StableHlo.nullary_bufs_sub .., StableHlo.unary_bufs_sub .., StableHlo.binary_bufs_sub ..,
    StableHlo.unary_bufs_sub .., StableHlo.binary_bufs_sub .., StableHlo.reshape_bufs_sub .., StableHlo.unary_bufs_sub .., StableHlo.binary_bufs_sub ..,
    StableHlo.binary_bufs_sub .., StableHlo.unary_bufs_sub .., StableHlo.binary_bufs_sub .., StableHlo.unary_bufs_sub .., StableHlo.unary_bufs_sub ..,
    StableHlo.nullary_bufs_sub .., StableHlo.binary_bufs_sub .., StableHlo.nullary_bufs_sub .., StableHlo.unary_bufs_sub .., StableHlo.binary_bufs_sub ..,
    StableHlo.unary_bufs_sub .., StableHlo.unary_bufs_sub .., StableHlo.binary_bufs_sub .., StableHlo.unary_bufs_sub .., StableHlo.nullary_bufs_sub ..,
    StableHlo.binary_bufs_sub .., StableHlo.unary_bufs_sub .., StableHlo.unary_bufs_sub .., StableHlo.binary_bufs_sub .., StableHlo.nullary_bufs_sub ..,
    StableHlo.binary_bufs_sub .., StableHlo.nullary_bufs_sub .., StableHlo.nullary_bufs_sub .., StableHlo.nullary_bufs_sub .., StableHlo.quaternary_bufs_sub ..,
    StableHlo.quaternary_bufs_sub .., StableHlo.binary_bufs_sub .., StableHlo.unary_bufs_sub .., StableHlo.unary_bufs_sub .., StableHlo.unary_bufs_sub ..,
    StableHlo.unary_bufs_sub .., StableHlo.unary_bufs_sub .., StableHlo.binary_bufs_sub .., StableHlo.unary_bufs_sub .., StableHlo.unary_bufs_sub ..,
    StableHlo.unary_bufs_sub .., StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub .., StableHlo.unary_bufs_sub ..,
    StableHlo.binary_bufs_sub .., StableHlo.nullary_bufs_sub .., StableHlo.binary_bufs_sub .., StableHlo.binary_bufs_sub .., StableHlo.unary_bufs_sub ..,
    StableHlo.unary_bufs_sub .., StableHlo.binary_bufs_sub .., StableHlo.nullary_bufs_sub .., StableHlo.binary_bufs_sub .., StableHlo.binary_bufs_sub ..,
    StableHlo.nullary_bufs_sub .., StableHlo.unary_bufs_sub .., StableHlo.binary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.nullary_bufs_sub .., StableHlo.binary_bufs_sub .., StableHlo.unary_bufs_sub ..⟩

theorem ops_fresh : ∀ op ∈ (ops : List (HloOp τ sig (Elt F))), op.fresh = ∅ :=
  List.forall_iff_forall_mem.mp (StableHlo.forall_fresh_of_map rfl)

theorem keep (V : Valuation τ sig (Elt F)) (r : Ref sig .tc)
    (h0 : r ∉ ([main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0, main_v1, main_v2] : List (Ref sig .tc)))
    (h1 : r ∉ ([main_cst_1, main_v3, main_cst_2, main_v4, main_v5, main_v6, main_v7, main_v8, main_v9, main_cst_3, main_v10, main_v11, main_v12, main_v13] : List (Ref sig .tc)))
    (h2 : r ∉ ([main_cst_4, main_v14, main_call1_v0, main_call1_cst, main_call1_c, main_call1_v1_0, main_v15, main_v16, main_v17] : List (Ref sig .tc)))
    (h3 : r ∉ ([main_v18, main_v19, main_v20, main_v21, main_v22, main_v23, main_v24, main_v25, main_v26, main_v27, main_v28, main_v29] : List (Ref sig .tc)))
    (h4 : r ∉ ([main_cst_5, main_v30, main_cst_6, main_v31, main_v32, main_cst_7, main_v33, main_v34] : List (Ref sig .tc)))
    (h5 : r ∉ ([main_v35, main_v36, main_v37, main_cst_8, main_v38, main_v39, main_v40, main_v41, main_v42, main_cst_9, main_v43, main_v44, main_cst_10, main_v45, main_v46, main_v47] : List (Ref sig .tc)))
    (h6 : r ∉ ([main_v48, main_v49, main_cst_11, main_call2_v0, main_call2_v1, main_v50, main_cst_12, main_v51, main_v52] : List (Ref sig .tc))) :
    StableHlo.after ops V (Proc.devRef .tc r) = V (Proc.devRef .tc r) := by
  simp only [ops, after_append]
  rw [opsSum_keep _ r h6, opsGap_keep _ r h5, opsCount_keep _ r h4, opsBin_keep _ r h3, opsPick_keep _ r h2, opsSoft_keep _ r h1, opsEdges_keep _ r h0]

theorem arg0_eq (V : Valuation τ sig (Elt F)) : StableHlo.after ops V (Proc.devRef .tc main_arg0) = V (Proc.devRef .tc main_arg0) :=
  keep V _ (by decide) (by decide) (by decide) (by decide) (by decide) (by decide) (by decide)

theorem arg1_eq (V : Valuation τ sig (Elt F)) : StableHlo.after ops V (Proc.devRef .tc main_arg1) = V (Proc.devRef .tc main_arg1) :=
  keep V _ (by decide) (by decide) (by decide) (by decide) (by decide) (by decide) (by decide)

/-- What the whole run leaves in the result's buffer. -/
theorem value_eq (V : Valuation τ sig (Elt F)) :
    StableHlo.after ops V (Proc.devRef .tc main_v52) = value (V (Proc.devRef .tc main_arg0)) (V (Proc.devRef .tc main_arg1)) := by
  simp only [ops, after_append]
  rw [total_eq, opsGap_keep _ main_v32 (by decide), share_eq, some_eq, count_eq, gap_eq, divisor_eq,
    opsCount_keep _ main_v14 (by decide), opsCount_keep _ main_v17 (by decide), opsCount_keep _ main_v29 (by decide), inBin_eq,
    opsBin_keep _ main_v14 (by decide), opsBin_keep _ main_v17 (by decide), conf_eq, right_eq,
    opsPick_keep _ main_v1 (by decide), opsPick_keep _ main_v2 (by decide), soft_eq, opsSoft_keep _ main_v1 (by decide),
    opsSoft_keep _ main_v2 (by decide), opsSoft_keep _ main_arg1 (by decide), lows_eq, highs_eq,
    opsEdges_keep _ main_arg0 (by decide), opsEdges_keep _ main_arg1 (by decide)]
  rfl

/-- Every execution of the reference ends, with its value in the result's buffer, its arguments unchanged and the semaphores at
    zero. -/
theorem run_main (m : (ℓ : Loc nD τ sig) → Buf (Elt F) ℓ) (ρ : Dev nD → PrngReg) :
    θ_run defs (onTc (τ := τ) main) ⟨m, fun _ => 0, ρ⟩ fun r =>
      (∀ d : Dev nD, r.2.mem ((d.tc : Thread nD τ).loc main_v52)
            = value (F := F) (m ((d.tc : Thread nD τ).loc main_arg0)) (m ((d.tc : Thread nD τ).loc main_arg1))
          ∧ r.2.mem ((d.tc : Thread nD τ).loc main_arg0) = m ((d.tc : Thread nD τ).loc main_arg0)
          ∧ r.2.mem ((d.tc : Thread nD τ).loc main_arg1) = m ((d.tc : Thread nD τ).loc main_arg1))
        ∧ r.2.sem = fun _ => 0 :=
  θ_run_mono (StableHlo.run_seq (by decide) (by decide) defs main (fun _ => ops) main_eq (fun _ => ops_sub) m ρ (fun _ => ops_fresh))
    fun r h => ⟨fun d => ⟨(h d main_v52).trans (value_eq _), (h d main_arg0).trans (arg0_eq _), (h d main_arg1).trans (arg1_eq _)⟩,
      sem_eq_zero_of_no_sems rfl r.2⟩

end Cert.Proof.Ref
-- ==== Proof.Val.Row.lean ====
module

public import Idealize.ShloMosaic.PureOps.Ideal.Laws
public import Idealize.ShloMosaic.PureOps.Reduce

/-!
One row of logits, in exact arithmetic: the row's greatest logit, the weights `exp (x j - max)`, their sum, and the
confidence `1 / sum`, all as real numbers.
-/

@[expose] public section

noncomputable section

namespace Cert.Proof.Val

open Idealize.ShloMosaic

/-- The greatest logit of a row. -/
def top (x : Fin 100 → EReal) : EReal := Finset.univ.fold max ⊥ x

/-- The weight of class `j`: the exponential of the logit less the greatest one (zero for a logit of minus infinity). -/
def weight (x : Fin 100 → EReal) (j : Fin 100) : ℝ := if x j = ⊥ then 0 else Real.exp ((x j).toReal - (top x).toReal)

/-- The sum of a row's weights. -/
def den (x : Fin 100 → EReal) : ℝ := ∑ j, weight x j

/-- The row's confidence. -/
def confR (x : Fin 100 → EReal) : ℝ := 1 / den x

/-- A finite sum of reals is the same in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem le_top (x : Fin 100 → EReal) (j : Fin 100) : x j ≤ top x :=
  (Finset.le_fold_max _).2 (Or.inr ⟨j, Finset.mem_univ _, le_rfl⟩)

theorem exists_top (x : Fin 100 → EReal) : ∃ j, x j = top x := by
  rcases (Finset.le_fold_max (f := x) (s := Finset.univ) (b := ⊥) (top x)).1 le_rfl with h | ⟨j, _, h⟩
  · exact ⟨0, le_antisymm (le_top x 0) (h.trans bot_le)⟩
  · exact ⟨j, le_antisymm (le_top x j) h⟩

variable {x : Fin 100 → EReal} {m : ℝ}

/-- A logit of a row with a finite maximum is minus infinity or a real number. -/
theorem logit_cases (hm : top x = (m : EReal)) (j : Fin 100) : x j = ⊥ ∨ ∃ r : ℝ, x j = (r : EReal) ∧ r ≤ m := by
  have h := le_top x j
  rw [hm] at h
  cases hx : x j with
  | bot => exact Or.inl rfl
  | top => rw [hx] at h; exact absurd h (by simp)
  | coe r => rw [hx] at h; exact Or.inr ⟨r, rfl, EReal.coe_le_coe_iff.1 h⟩

/-- The weights are what exponentiating the differences gives. -/
theorem exp_sub_top (hm : top x = (m : EReal)) (j : Fin 100) : Ideal.exp (x j - top x) = (weight x j : EReal) := by
  rcases logit_cases hm j with h | ⟨r, h, -⟩
  · rw [weight, if_pos h, h, hm, EReal.bot_sub, Ideal.exp_bot, EReal.coe_zero]
  · rw [weight, if_neg (by rw [h]; exact EReal.coe_ne_bot r), h, hm, ← EReal.coe_sub, Ideal.exp_coe, EReal.toReal_coe, EReal.toReal_coe]

theorem weight_nonneg (j : Fin 100) : 0 ≤ weight x j := by
  rw [weight]; split
  · exact le_rfl
  · exact (Real.exp_pos _).le

theorem weight_le_one (hm : top x = (m : EReal)) (j : Fin 100) : weight x j ≤ 1 := by
  rcases logit_cases hm j with h | ⟨r, h, hr⟩
  · rw [weight, if_pos h]; exact zero_le_one
  · rw [weight, if_neg (by rw [h]; exact EReal.coe_ne_bot r), h, hm, EReal.toReal_coe, EReal.toReal_coe]
    exact Real.exp_le_one_iff.2 (by linarith)

/-- A weight is one exactly where the logit is the greatest. -/
theorem weight_eq_one_iff (hm : top x = (m : EReal)) (j : Fin 100) : weight x j = 1 ↔ x j = top x := by
  rcases logit_cases hm j with h | ⟨r, h, hr⟩
  · rw [weight, if_pos h, h, hm]
    exact ⟨fun h => absurd h zero_ne_one, fun h => absurd h (EReal.coe_ne_bot m).symm⟩
  · rw [weight, if_neg (by rw [h]; exact EReal.coe_ne_bot r), h, hm, EReal.toReal_coe, EReal.toReal_coe, Real.exp_eq_one_iff, EReal.coe_eq_coe_iff, sub_eq_zero]

theorem one_le_den (hm : top x = (m : EReal)) : 1 ≤ den x := by
  obtain ⟨j, hj⟩ := exists_top x
  rw [← (weight_eq_one_iff hm j).2 hj]
  exact Finset.single_le_sum (f := weight x) (fun i _ => weight_nonneg i) (Finset.mem_univ j)

theorem den_pos (hm : top x = (m : EReal)) : 0 < den x := zero_lt_one.trans_le (one_le_den hm)

theorem confR_pos (hm : top x = (m : EReal)) : 0 < confR x := one_div_pos.2 (den_pos hm)

theorem confR_le_one (hm : top x = (m : EReal)) : confR x ≤ 1 := by
  rw [confR, div_le_one (den_pos hm)]; exact one_le_den hm

theorem sum_exp (hm : top x = (m : EReal)) : ∑ j, Ideal.exp (x j - top x) = (den x : EReal) := by
  rw [den, ← coe_sum]
  exact Finset.sum_congr rfl fun j _ => exp_sub_top hm j

/-- The reciprocal of the sum of exponentials is the confidence. -/
theorem one_div_sum (hm : top x = (m : EReal)) : Ideal.div 1 (∑ j, Ideal.exp (x j - top x)) = (confR x : EReal) := by
  rw [sum_exp hm, Ideal.div_coe (den_pos hm).ne', one_mul, confR]

/-- A class's share of the sum of exponentials, as a real number. -/
theorem softmax_eq (hm : top x = (m : EReal)) (j : Fin 100) :
    Ideal.div (Ideal.exp (x j - top x)) (∑ j, Ideal.exp (x j - top x)) = ((weight x j * confR x : ℝ) : EReal) := by
  rw [sum_exp hm, Ideal.div_coe (den_pos hm).ne', exp_sub_top hm, ← EReal.coe_mul, confR]

/-- The greatest share is the confidence. -/
theorem top_softmax (hm : top x = (m : EReal)) {p : Fin 100 → EReal} (hp : ∀ j, p j = ((weight x j * confR x : ℝ) : EReal)) :
    top p = (confR x : EReal) := by
  have hc := (confR_pos hm).le
  apply le_antisymm
  · obtain ⟨j, hj⟩ := exists_top p
    rw [← hj, hp, EReal.coe_le_coe_iff]
    exact mul_le_of_le_one_left hc (weight_le_one hm j)
  · obtain ⟨j, hj⟩ := exists_top x
    have h := le_top p j
    rwa [hp, (weight_eq_one_iff hm j).2 hj, one_mul] at h

/-- A share is the greatest exactly where the logit is. -/
theorem softmax_eq_top_iff (hm : top x = (m : EReal)) {p : Fin 100 → EReal} (hp : ∀ j, p j = ((weight x j * confR x : ℝ) : EReal))
    (j : Fin 100) : p j = top p ↔ x j = top x := by
  rw [top_softmax hm hp, hp, EReal.coe_eq_coe_iff, ← weight_eq_one_iff hm j]
  have hc := (confR_pos hm).ne'
  constructor
  · intro h; exact mul_right_cancel₀ hc (h.trans (one_mul _).symm)
  · intro h; rw [h, one_mul]

end Cert.Proof.Val
-- ==== Proof.Val.First.lean ====
module

public import proofs.«01_k».proof.Proof.Val.Row
public import proofs.«01_k».proof.ReferenceIdeal
public import Idealize.ShloMosaic.Lib.SortNet.Extract

/-!
The predicted class of a row: the first class whose logit is the greatest. The kernel finds it as the least position
among the maximal ones; the reference by a fold that carries a value and a position.
-/

@[expose] public section

namespace Cert.Proof.Val

open Idealize.ShloMosaic

/-- The word `w` names the first class at which `P` holds. -/
def IsFirst (P : Fin 100 → Prop) (w : BitVec 32) : Prop :=
  ∃ j : Fin 100, w = BitVec.ofNat 32 j.val ∧ P j ∧ ∀ i, P i → j ≤ i

theorem IsFirst.unique {P : Fin 100 → Prop} {w w' : BitVec 32} (h : IsFirst P w) (h' : IsFirst P w') : w = w' := by
  obtain ⟨j, rfl, hj, hl⟩ := h
  obtain ⟨j', rfl, hj', hl'⟩ := h'
  rw [le_antisymm (hl j' hj') (hl' j hj)]

theorem IsFirst.congr {P Q : Fin 100 → Prop} {w : BitVec 32} (h : IsFirst P w) (hpq : ∀ j, P j ↔ Q j) : IsFirst Q w := by
  obtain ⟨j, hw, hj, hl⟩ := h
  exact ⟨j, hw, (hpq j).1 hj, fun i hi => hl i ((hpq i).2 hi)⟩

theorem toInt_ofNat_lt {k : Nat} (h : k ≤ 100) : (BitVec.ofNat 32 k).toInt = k := by
  rw [BitVec.toInt_eq_toNat_bmod, BitVec.toNat_ofNat, Nat.mod_eq_of_lt (by omega)]
  exact Int.bmod_eq_of_le (by omega) (by omega)

/-- The signed minimum, folded over a family, is at most every member and is a member or the start. -/
theorem fold_minsi_spec (g : Fin 100 → BitVec 32) (init : BitVec 32) (s : Finset (Fin 100)) :
    (∀ j ∈ s, (s.fold IntOp.minsi init g).toInt ≤ (g j).toInt) ∧ (s.fold IntOp.minsi init g = init ∨ ∃ j ∈ s, s.fold IntOp.minsi init g = g j) := by
  classical
  induction s using Finset.induction_on with
  | empty => exact ⟨by simp, Or.inl rfl⟩
  | insert a s ha ih =>
    obtain ⟨h1, h2⟩ := ih
    rw [Finset.fold_insert ha]
    refine ⟨fun j hj => ?_, ?_⟩
    · rw [SortNet.toInt_minsi]
      rcases Finset.mem_insert.1 hj with rfl | hj
      · exact min_le_left _ _
      · exact (min_le_right _ _).trans (h1 j hj)
    · have hc : IntOp.minsi (g a) (s.fold IntOp.minsi init g) = g a ∨
          IntOp.minsi (g a) (s.fold IntOp.minsi init g) = s.fold IntOp.minsi init g := by
        unfold IntOp.minsi; split
        · exact Or.inl rfl
        · exact Or.inr rfl
      rcases hc with h | h
      · exact Or.inr ⟨a, Finset.mem_insert_self _ _, h⟩
      · rw [h]
        rcases h2 with h2 | ⟨j, hj, h2⟩
        · exact Or.inl h2
        · exact Or.inr ⟨j, Finset.mem_insert_of_mem hj, h2⟩

/-- The kernel's search: the least of the positions, those at which `P` fails counted as 100, is the first at which it holds. -/
theorem isFirst_fold_minsi (P : Fin 100 → Prop) [DecidablePred P] (hP : ∃ j, P j) (g : Fin 100 → BitVec 32)
    (hg : ∀ j, g j = if P j then BitVec.ofNat 32 j.val else 100#32) :
    IsFirst P (Finset.univ.fold IntOp.minsi 2147483647#32 g) := by
  obtain ⟨h1, h2⟩ := fold_minsi_spec g 2147483647#32 Finset.univ
  set w := Finset.univ.fold IntOp.minsi 2147483647#32 g with hw
  obtain ⟨j0, hj0⟩ := hP
  have h0 : w.toInt ≤ j0.val := by
    have := h1 j0 (Finset.mem_univ _)
    rwa [hg, if_pos hj0, toInt_ofNat_lt (by omega)] at this
  rcases h2 with h | ⟨j, -, h⟩
  · rw [h] at h0
    have : (2147483647#32).toInt = 2147483647 := by decide
    omega
  · by_cases hj : P j
    · rw [hg, if_pos hj] at h
      refine ⟨j, h, hj, fun i hi => ?_⟩
      have := h1 i (Finset.mem_univ _)
      rw [hg i, if_pos hi, toInt_ofNat_lt (by omega), h, toInt_ofNat_lt (by omega)] at this
      exact Fin.le_def.2 (by omega)
    · rw [hg, if_neg hj] at h
      rw [h] at h0
      have : (100#32).toInt = 100 := by decide
      omega

/-- One pair is at least as good as another: a greater value, or the same value at a position no later. -/
def Beats (a b : EReal × BitVec 32) : Prop := b.1 < a.1 ∨ b.1 = a.1 ∧ a.2.toInt ≤ b.2.toInt

theorem Beats.refl (a : EReal × BitVec 32) : Beats a a := Or.inr ⟨rfl, le_rfl⟩

theorem Beats.trans {a b c : EReal × BitVec 32} (h : Beats a b) (h' : Beats b c) : Beats a c := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- The reference's step keeps one of its two pairs, and the better one. -/
theorem reducer_spec (a b : EReal × BitVec 32) :
    (Cert.ReferenceIdeal.reducer_argmax_f32_i32 (F := Ideal) a b = a ∨ Cert.ReferenceIdeal.reducer_argmax_f32_i32 (F := Ideal) a b = b) ∧
      Beats (Cert.ReferenceIdeal.reducer_argmax_f32_i32 (F := Ideal) a b) a ∧
      Beats (Cert.ReferenceIdeal.reducer_argmax_f32_i32 (F := Ideal) a b) b := by
  obtain ⟨a1, a2⟩ := a
  obtain ⟨b1, b2⟩ := b
  have hslt : a2.slt b2 = decide (a2.toInt < b2.toInt) := rfl
  have key : Cert.ReferenceIdeal.reducer_argmax_f32_i32 (F := Ideal) (a1, a2) (b1, b2) =
      (if b1 < a1 then a1 else b1, if b1 < a1 ∨ a1 = b1 ∧ a2.toInt < b2.toInt then a2 else b2) := by
    unfold Cert.ReferenceIdeal.reducer_argmax_f32_i32
    by_cases h1 : b1 < a1 <;> by_cases h2 : a1 = b1 <;> by_cases h3 : a2.toInt < b2.toInt <;>
      simp [Ideal.cmpf_def, Ideal.cmp, IntOp.ori, IntOp.andi, IntOp.cmpi, Scalar.select, hslt, h1, h2, h3]
  rw [key]
  by_cases h1 : b1 < a1
  · rw [if_pos h1, if_pos (Or.inl h1)]
    exact ⟨Or.inl rfl, Beats.refl _, Or.inl h1⟩
  · by_cases h2 : a1 = b1
    · subst h2
      rw [if_neg h1]
      by_cases h3 : a2.toInt < b2.toInt
      · rw [if_pos (Or.inr ⟨rfl, h3⟩)]
        exact ⟨Or.inl rfl, Beats.refl _, Or.inr ⟨rfl, h3.le⟩⟩
      · rw [if_neg (by rintro (h | ⟨-, h⟩); exacts [h1 h, h3 h])]
        exact ⟨Or.inr rfl, Or.inr ⟨rfl, not_lt.1 h3⟩, Beats.refl _⟩
    · rw [if_neg h1, if_neg (by rintro (h | ⟨h, -⟩); exacts [h1 h, h2 h])]
      exact ⟨Or.inr rfl, Or.inl (lt_of_le_of_ne (not_lt.1 h1) h2), Beats.refl _⟩

/-- The reference's fold ends at the start or at a member of the list, and at the best. -/
theorem foldl_reducer_spec (l : List (EReal × BitVec 32)) (z : EReal × BitVec 32) :
    (l.foldl (Cert.ReferenceIdeal.reducer_argmax_f32_i32 (F := Ideal)) z = z ∨ l.foldl (Cert.ReferenceIdeal.reducer_argmax_f32_i32 (F := Ideal)) z ∈ l) ∧
      Beats (l.foldl (Cert.ReferenceIdeal.reducer_argmax_f32_i32 (F := Ideal)) z) z ∧
      ∀ p ∈ l, Beats (l.foldl (Cert.ReferenceIdeal.reducer_argmax_f32_i32 (F := Ideal)) z) p := by
  induction l generalizing z with
  | nil => exact ⟨Or.inl rfl, Beats.refl z, by simp⟩
  | cons a l ih =>
    rw [List.foldl_cons]
    obtain ⟨h1, h2, h3⟩ := ih (Cert.ReferenceIdeal.reducer_argmax_f32_i32 (F := Ideal) z a)
    obtain ⟨g1, g2, g3⟩ := reducer_spec z a
    refine ⟨?_, h2.trans g2, fun p hp => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.1 hp with rfl | hp
      · exact h2.trans g3
      · exact h3 p hp

/-- The reference's search over the pairs of a family of values above minus infinity and their positions ends at the first
greatest. -/
theorem isFirst_foldl (p : Fin 100 → EReal) (hp : ∀ j, ⊥ < p j) (l : List (EReal × BitVec 32))
    (hl : ∀ q, q ∈ l ↔ ∃ j : Fin 100, q = (p j, BitVec.ofNat 32 j.val)) :
    IsFirst (fun j => p j = top p) (l.foldl (Cert.ReferenceIdeal.reducer_argmax_f32_i32 (F := Ideal)) (⊥, 0#32)).2 := by
  obtain ⟨h1, -, h3⟩ := foldl_reducer_spec l (⊥, 0#32)
  set r := l.foldl (Cert.ReferenceIdeal.reducer_argmax_f32_i32 (F := Ideal)) (⊥, 0#32) with hr
  have hb : ∀ j : Fin 100, Beats r (p j, BitVec.ofNat 32 j.val) := fun j => h3 _ ((hl _).2 ⟨j, rfl⟩)
  have hge : ∀ j, p j ≤ r.1 := fun j => by
    rcases hb j with h | ⟨h, -⟩
    · exact h.le
    · exact h.le
  rcases h1 with h | h
  · have := hge 0
    rw [h] at this
    exact absurd (hp 0) (not_lt.2 this)
  · obtain ⟨j, hj⟩ := (hl _).1 h
    have hv : r.1 = p j := by rw [hj]
    have hi : r.2 = BitVec.ofNat 32 j.val := by rw [hj]
    have ht : top p = p j := by
      obtain ⟨i, hi⟩ := exists_top p
      exact le_antisymm (hi ▸ hv ▸ hge i) (le_top p j)
    refine ⟨j, hi, ht.symm, fun i hpi => ?_⟩
    rcases hb i with h | ⟨-, h⟩
    · have h' : p i < r.1 := h
      rw [hpi, ht, hv] at h'
      exact absurd h' (lt_irrefl _)
    · have h' : r.2.toInt ≤ (BitVec.ofNat 32 i.val).toInt := h
      rw [hi, toInt_ofNat_lt (by omega), toInt_ofNat_lt (by omega)] at h'
      exact Fin.le_def.2 (by omega)

end Cert.Proof.Val
-- ==== Proof.Val.Shapes.lean ====
module

public import Idealize.ShloMosaic.Lib.Pointwise
public import Idealize.ShloMosaic.Lib.Tactic.CleanTypes

/-!
The reference's shape operations on a matrix, read at an entry.
-/

@[expose] public section

noncomputable section

namespace Cert.Proof.Val

open Idealize.ShloMosaic

/-- A vector made a column and repeated along the rows is itself. -/
theorem bcast_rows {n m : Nat} (hn : n ≠ 1) {α : Type} (h1 : (⟨1, ![n]⟩ : Shape).BroadcastsInDim ⟨2, ![n, 1]⟩ ![0])
    (h2 : (⟨2, ![n, 1]⟩ : Shape).BroadcastsInDim ⟨2, ![n, m]⟩ ![0, 1]) (v : (⟨1, ![n]⟩ : Shape).Idx → α) (r : Fin n) (k : Fin m) :
    broadcastInDim ⟨2, ![n, m]⟩ ![0, 1] h2 (broadcastInDim ⟨2, ![n, 1]⟩ ![0] h1 v) (ix2 r k) = v (ix1 r) := by
  unfold broadcastInDim
  congr 1; funext a
  obtain rfl : a = 0 := Subsingleton.elim _ _
  apply Fin.ext
  simp [hn]

/-- A vector made a row and repeated down the columns is itself. -/
theorem bcast_cols {n m : Nat} (hn : n ≠ 1) {α : Type} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (k : Fin m) (r : Fin n) :
    broadcastInDim ⟨2, ![m, n]⟩ ![0, 1] h2 (broadcastInDim ⟨2, ![1, n]⟩ ![1] h1 v) (ix2 k r) = v (ix1 r) := by
  unfold broadcastInDim
  congr 1; funext a
  obtain rfl : a = 0 := Subsingleton.elim _ _
  apply Fin.ext
  simp [hn]

/-- The maximum along each row. -/
theorem reduce_max_rows {n m : Nat} (h : (⟨2, ![n, m]⟩ : Shape).ReducesTo [1] ⟨1, ![n]⟩) (hu : 0 < (⟨0, ![]⟩ : Shape).numel)
    (x : (⟨2, ![n, m]⟩ : Shape).Idx → Ideal .f32) (r : Fin n) (b : BitVec 32) :
    Host.reduce FloatOps.maximumf x (constant ⟨0, ![]⟩ .f32 b) h hu (ix1 r) = Finset.univ.fold max (Ideal.ofBits .f32 b) fun k => x (ix2 r k) := by
  pointwise

/-- The sum along each row. -/
theorem reduce_add_rows {n m : Nat} (h : (⟨2, ![n, m]⟩ : Shape).ReducesTo [1] ⟨1, ![n]⟩) (hu : 0 < (⟨0, ![]⟩ : Shape).numel)
    (x : (⟨2, ![n, m]⟩ : Shape).Idx → Ideal .f32) (r : Fin n) :
    Host.reduceAdd x (constant ⟨0, ![]⟩ .f32 0x00000000#32) h hu (ix1 r) = ∑ k, x (ix2 r k) := by
  pointwise

/-- The pairs a search along row `r` meets are those of row `r`. -/
theorem mem_fiber {n m : Nat} {α β : Type} (h : (⟨2, ![n, m]⟩ : Shape).ReducesTo [1] ⟨1, ![n]⟩) (x : (⟨2, ![n, m]⟩ : Shape).Idx → α)
    (y : (⟨2, ![n, m]⟩ : Shape).Idx → β) (r : Fin n) (q : α × β) :
    q ∈ Host.argReduceFiber x y h (ix1 r) ↔ ∃ k : Fin m, q = (x (ix2 r k), y (ix2 r k)) := by
  have hd (i : (⟨2, ![n, m]⟩ : Shape).Idx) : h.drop i = ix1 r ↔ i 0 = r := by
    have hv : (h.drop i 0 : Nat) = i 0 := Shape.ReducesTo.drop_apply_val h i 0
    constructor
    · intro e; rw [e] at hv; exact Fin.ext hv.symm
    · intro e; funext a; obtain rfl : a = 0 := Subsingleton.elim _ _
      exact Fin.ext (hv.trans (congrArg Fin.val e))
  simp only [Host.argReduceFiber, List.mem_map, List.mem_filter, List.mem_finRange, true_and, decide_eq_true_eq, hd]
  constructor
  · rintro ⟨i, hi, rfl⟩
    refine ⟨(Shape.rowMajor _).symm i 1, ?_⟩
    have e : (Shape.rowMajor (⟨2, ![n, m]⟩ : Shape)).symm i = ix2 r ((Shape.rowMajor _).symm i 1) := by
      funext a; fin_cases a
      · exact hi
      · rfl
    exact Prod.ext (congrArg x e) (congrArg y e)
  · rintro ⟨k, rfl⟩
    refine ⟨Shape.rowMajor _ (ix2 r k), ?_, ?_⟩
    · rw [Equiv.symm_apply_apply]; rfl
    · rw [Equiv.symm_apply_apply]

end Cert.Proof.Val
-- ==== Proof.Val.Consts.lean ====
module

public import Idealize.ShloMosaic.PureOps.Ideal.Laws
public import Idealize.ShloMosaic.Lib.IdealHost
public import proofs.«01_k».proof.KernelIdeal

/-!
The constants both programs print, as real numbers.
-/

@[expose] public section

noncomputable section

namespace Cert.Proof.Val

open Idealize.ShloMosaic

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_two : Ideal.ofBits .f32 0x40000000#32 = ((2 : ℝ) : EReal) := by
  simp [Ideal.ofBits, Ideal.ieee]
  rw [← EReal.coe_mul]; norm_num

theorem ofBits_fifteen : Ideal.ofBits .f32 0x41700000#32 = ((15 : ℝ) : EReal) := by
  simp [Ideal.ofBits, Ideal.ieee]
  rw [← EReal.coe_mul]; norm_num

theorem ofBits_million : Ideal.ofBits .f32 0x49742400#32 = ((1000000 : ℝ) : EReal) := by
  simp [Ideal.ofBits, Ideal.ieee]
  rw [← EReal.coe_mul]; norm_num

theorem named_inv_n : (Named.named Cert.KernelIdeal.κ "inv_n" 897988541#32 : Ideal .f32) = ((1 / 1000000 : ℝ) : EReal) :=
  IdealRules.named_const.ideal_named_scalar _ _ _ _ rfl

theorem uitofp_def {w : Nat} (b : BitVec w) : (FloatOps.uitofp .f32 b : Ideal .f32) = ((b.toNat : ℝ) : EReal) := rfl

theorem sitofp_def {w : Nat} (b : BitVec w) : (FloatOps.sitofp .f32 b : Ideal .f32) = ((b.toInt : ℝ) : EReal) := rfl

/-- A truth value carried as an unsigned word is 1 or 0. -/
theorem uitofp_bool (b : Bool) : (FloatOps.uitofp .f32 (BitVec.ofBool b) : Ideal .f32) = ((if b then 1 else 0 : ℝ) : EReal) := by
  rw [uitofp_def]; cases b <;> simp

/-- A truth value carried through a signed word is 1 or 0. -/
theorem sitofp_bool (b : Bool) : (FloatOps.sitofp .f32 (BitVec.setWidth 32 (BitVec.ofBool b)) : Ideal .f32) = ((if b then 1 else 0 : ℝ) : EReal) := by
  rw [sitofp_def]; cases b
  · have : (BitVec.setWidth 32 (BitVec.ofBool false)).toInt = 0 := by decide
    rw [this]; simp
  · have : (BitVec.setWidth 32 (BitVec.ofBool true)).toInt = 1 := by decide
    rw [this]; simp

/-- A small number carried as a signed word. -/
theorem sitofp_ofNat {k : Nat} (h : k < 1000) : (FloatOps.sitofp .f32 (BitVec.ofNat 32 k) : Ideal .f32) = ((k : ℝ) : EReal) := by
  have : (BitVec.ofNat 32 k).toInt = k := by
    rw [BitVec.toInt_eq_toNat_bmod, BitVec.toNat_ofNat, Nat.mod_eq_of_lt (by omega)]
    exact Int.bmod_eq_of_le (by omega) (by omega)
  rw [sitofp_def, this]; simp

end Cert.Proof.Val
-- ==== Proof.Val.RefRow.lean ====
module

public import proofs.«01_k».proof.Proof.Val.First
public import proofs.«01_k».proof.Proof.Val.Shapes
public import proofs.«01_k».proof.Proof.Val.Consts

/-!
The reference's operations on a matrix of logits with any number of rows, read at one row: the softmax, the confidence,
and whether the prediction is right.
-/

@[expose] public section

noncomputable section

namespace Cert.Proof.Val

open Idealize.ShloMosaic

/-- Whether the predicted class `w`, the label `y` given, is right, as a real. -/
def okR (w y : BitVec 32) : ℝ := if w = y then 1 else 0

variable {n : Nat}

/-- Row `r` of the logits. -/
def rowOf (x : (⟨2, ![n, 100]⟩ : Shape).Idx → EReal) (r : Fin n) : Fin 100 → EReal := fun k => x (ix2 r k)

/-- The logits less their row's greatest, exponentiated. -/
def expG (h : (⟨2, ![n, 100]⟩ : Shape).ReducesTo [1] ⟨1, ![n]⟩) (hu : 0 < (⟨0, ![]⟩ : Shape).numel)
    (h0 : (⟨0, ![]⟩ : Shape).BroadcastsInDim ⟨1, ![n]⟩ ![]) (h1 : (⟨1, ![n]⟩ : Shape).BroadcastsInDim ⟨2, ![n, 1]⟩ ![0])
    (h2 : (⟨2, ![n, 1]⟩ : Shape).BroadcastsInDim ⟨2, ![n, 100]⟩ ![0, 1]) (x : (⟨2, ![n, 100]⟩ : Shape).Idx → Ideal .f32) :
    (⟨2, ![n, 100]⟩ : Shape).Idx → Ideal .f32 :=
  Host.exp (subf x (broadcastInDim ⟨2, ![n, 100]⟩ ![0, 1] h2 (broadcastInDim ⟨2, ![n, 1]⟩ ![0] h1
    (maximumf (broadcastInDim ⟨1, ![n]⟩ ![] h0 (constant ⟨0, ![]⟩ .f32 0xFF800000#32))
      (Host.reduce FloatOps.maximumf x (constant ⟨0, ![]⟩ .f32 0xFF800000#32) h hu)))))

/-- The softmax. -/
def softG (h : (⟨2, ![n, 100]⟩ : Shape).ReducesTo [1] ⟨1, ![n]⟩) (hu : 0 < (⟨0, ![]⟩ : Shape).numel)
    (h0 : (⟨0, ![]⟩ : Shape).BroadcastsInDim ⟨1, ![n]⟩ ![]) (h1 : (⟨1, ![n]⟩ : Shape).BroadcastsInDim ⟨2, ![n, 1]⟩ ![0])
    (h2 : (⟨2, ![n, 1]⟩ : Shape).BroadcastsInDim ⟨2, ![n, 100]⟩ ![0, 1]) (x : (⟨2, ![n, 100]⟩ : Shape).Idx → Ideal .f32) :
    (⟨2, ![n, 100]⟩ : Shape).Idx → Ideal .f32 :=
  Host.divf (expG h hu h0 h1 h2 x) (broadcastInDim ⟨2, ![n, 100]⟩ ![0, 1] h2 (broadcastInDim ⟨2, ![n, 1]⟩ ![0] h1
    (Host.reduceAdd (expG h hu h0 h1 h2 x) (constant ⟨0, ![]⟩ .f32 0x00000000#32) h hu)))

/-- Whether each row's prediction is right. -/
def rightG (h : (⟨2, ![n, 100]⟩ : Shape).ReducesTo [1] ⟨1, ![n]⟩) (hu : 0 < (⟨0, ![]⟩ : Shape).numel)
    (p : (⟨2, ![n, 100]⟩ : Shape).Idx → Ideal .f32) (y : (⟨1, ![n]⟩ : Shape).Idx → BitVec 32) : (⟨1, ![n]⟩ : Shape).Idx → Ideal .f32 :=
  uitofp .f32 (cmpi .eq (fun j => (Host.argReduce (F := Ideal) Cert.ReferenceIdeal.reducer_argmax_f32_i32 p (iotaInDim ⟨2, ![n, 100]⟩ 32 1)
    (constant ⟨0, ![]⟩ .f32 0xFF800000#32) (constantI ⟨0, ![]⟩ 32 0#32) h hu j).2) y)

variable (h : (⟨2, ![n, 100]⟩ : Shape).ReducesTo [1] ⟨1, ![n]⟩) (hu : 0 < (⟨0, ![]⟩ : Shape).numel)
    (h0 : (⟨0, ![]⟩ : Shape).BroadcastsInDim ⟨1, ![n]⟩ ![]) (h1 : (⟨1, ![n]⟩ : Shape).BroadcastsInDim ⟨2, ![n, 1]⟩ ![0])
    (h2 : (⟨2, ![n, 1]⟩ : Shape).BroadcastsInDim ⟨2, ![n, 100]⟩ ![0, 1]) (hn : n ≠ 1)
    {x : (⟨2, ![n, 100]⟩ : Shape).Idx → Ideal .f32} {r : Fin n} {m : ℝ}

include hn in
theorem expG_apply (k : Fin 100) : expG h hu h0 h1 h2 x (ix2 r k) = Ideal.exp (rowOf x r k - top (rowOf x r)) := by
  have e : expG h hu h0 h1 h2 x (ix2 r k) = Ideal.exp (x (ix2 r k) - (broadcastInDim ⟨2, ![n, 100]⟩ ![0, 1] h2 (broadcastInDim ⟨2, ![n, 1]⟩ ![0] h1
    (maximumf (broadcastInDim ⟨1, ![n]⟩ ![] h0 (constant ⟨0, ![]⟩ .f32 0xFF800000#32))
      (Host.reduce FloatOps.maximumf x (constant ⟨0, ![]⟩ .f32 0xFF800000#32) h hu)))) (ix2 r k)) := rfl
  have e' : (maximumf (broadcastInDim ⟨1, ![n]⟩ ![] h0 (constant ⟨0, ![]⟩ .f32 0xFF800000#32))
      (Host.reduce FloatOps.maximumf x (constant ⟨0, ![]⟩ .f32 0xFF800000#32) h hu) : (⟨1, ![n]⟩ : Shape).Idx → Ideal .f32) (ix1 r)
      = max (Ideal.ofBits .f32 0xFF800000#32) (Host.reduce FloatOps.maximumf x (constant ⟨0, ![]⟩ .f32 0xFF800000#32) h hu (ix1 r)) := rfl
  rw [e, bcast_rows hn, e', reduce_max_rows, ofBits_neg_inf, max_eq_right bot_le]
  rfl

include hn in
/-- The softmax of a row. -/
theorem softG_apply (hm : top (rowOf x r) = (m : EReal)) (k : Fin 100) :
    softG h hu h0 h1 h2 x (ix2 r k) = ((weight (rowOf x r) k * confR (rowOf x r) : ℝ) : EReal) := by
  have e : softG h hu h0 h1 h2 x (ix2 r k) = Ideal.div (expG h hu h0 h1 h2 x (ix2 r k)) (broadcastInDim ⟨2, ![n, 100]⟩ ![0, 1] h2
    (broadcastInDim ⟨2, ![n, 1]⟩ ![0] h1 (Host.reduceAdd (expG h hu h0 h1 h2 x) (constant ⟨0, ![]⟩ .f32 0x00000000#32) h hu)) (ix2 r k)) := rfl
  rw [← softmax_eq hm k, e, bcast_rows hn, reduce_add_rows, expG_apply h hu h0 h1 h2 hn]
  simp_rw [expG_apply h hu h0 h1 h2 hn]

/-- The confidence of a row. -/
theorem confG_apply (hm : top (rowOf x r) = (m : EReal)) {p : (⟨2, ![n, 100]⟩ : Shape).Idx → Ideal .f32}
    (hp : ∀ k, p (ix2 r k) = ((weight (rowOf x r) k * confR (rowOf x r) : ℝ) : EReal)) :
    Host.reduce FloatOps.maximumf p (constant ⟨0, ![]⟩ .f32 0xFF800000#32) h hu (ix1 r) = (confR (rowOf x r) : EReal) := by
  rw [← top_softmax hm (p := fun k => p (ix2 r k)) hp, reduce_max_rows, ofBits_neg_inf]
  rfl

/-- The prediction is the first class with the greatest logit. -/
theorem rightG_apply (hm : top (rowOf x r) = (m : EReal)) {p : (⟨2, ![n, 100]⟩ : Shape).Idx → Ideal .f32}
    (hp : ∀ k, p (ix2 r k) = ((weight (rowOf x r) k * confR (rowOf x r) : ℝ) : EReal)) (y : (⟨1, ![n]⟩ : Shape).Idx → BitVec 32) :
    ∃ w, IsFirst (fun j => rowOf x r j = top (rowOf x r)) w ∧ rightG h hu p y (ix1 r) = (okR w (y (ix1 r)) : EReal) := by
  have e : rightG h hu p y (ix1 r) = FloatOps.uitofp .f32 (IntOp.cmpi .eq
    (Host.argReduce (F := Ideal) Cert.ReferenceIdeal.reducer_argmax_f32_i32 p (iotaInDim ⟨2, ![n, 100]⟩ 32 1)
      (constant ⟨0, ![]⟩ .f32 0xFF800000#32) (constantI ⟨0, ![]⟩ 32 0#32) h hu (ix1 r)).2 (y (ix1 r))) := rfl
  rw [e, Ideal.argReduce_eq_reduce2, Host.reduce2_eq_foldl_fiber]
  have hz : ((constant ⟨0, ![]⟩ .f32 0xFF800000#32 : (⟨0, ![]⟩ : Shape).Idx → Ideal .f32) (Shape.Idx.first hu), (constantI ⟨0, ![]⟩ 32 0#32) (Shape.Idx.first hu)) = ((⊥, 0#32) : EReal × BitVec 32) :=
    Prod.ext ofBits_neg_inf rfl
  have hs := isFirst_foldl (fun k => p (ix2 r k)) (fun k => by rw [hp]; exact EReal.bot_lt_coe _)
    (Host.argReduceFiber p (iotaInDim ⟨2, ![n, 100]⟩ 32 1) h (ix1 r))
    (fun q => mem_fiber _ _ _ r q)
  rw [← hz] at hs
  refine ⟨_, hs.congr (softmax_eq_top_iff hm hp), ?_⟩
  generalize List.foldl _ _ _ = z
  have e2 : IntOp.cmpi .eq z.2 (y (ix1 r)) = BitVec.ofBool (z.2 == y (ix1 r)) := rfl
  rw [e2, uitofp_bool, okR]
  simp

end Cert.Proof.Val
-- ==== Proof.Val.Pre.lean ====
module

public import proofs.«01_k».proof.Pre_row_max_finite
public import proofs.«01_k».proof.Proof.Val.RefRow

/-!
The precondition: every row's greatest logit is a real number.
-/

@[expose] public section

set_option maxRecDepth 16384

noncomputable section

namespace Cert.Proof.Val

open Idealize.ShloMosaic

/-- The side conditions of the precondition's operations. -/
theorem preFacts : Cert.Pre_row_max_finite.Facts where
  reducesTo_S1000000x100_S1000000_d1 := by decide
  h_S_ := by decide
  bcast_S_S1000000 := by decide

/-- The precondition's function on a matrix with any number of rows. -/
def preG {n : Nat} (h : (⟨2, ![n, 100]⟩ : Shape).ReducesTo [1] ⟨1, ![n]⟩) (hu : 0 < (⟨0, ![]⟩ : Shape).numel)
    (h0 : (⟨0, ![]⟩ : Shape).BroadcastsInDim ⟨1, ![n]⟩ ![]) (x : (⟨2, ![n, 100]⟩ : Shape).Idx → Ideal .f32) : (⟨1, ![n]⟩ : Shape).Idx → BitVec 1 :=
  cmpf .olt (Host.absf (Host.reduce FloatOps.maximumf x (constant ⟨0, ![]⟩ .f32 0xFF800000#32) h hu))
    (broadcastInDim ⟨1, ![n]⟩ ![] h0 (constant ⟨0, ![]⟩ .f32 0x7F800000#32))

theorem real_of_abs_lt_top (a : EReal) (h : Ideal.cmp .olt (FloatOps.absf (F := Ideal) (φ := .f32) a) ⊤ = 1#1) : ∃ m : ℝ, a = (m : EReal) := by
  cases a with
  | bot => exfalso; revert h; simp [Ideal.cmp, FloatOps.absf]
  | top => exfalso; revert h; simp [Ideal.cmp, FloatOps.absf]
  | coe m => exact ⟨m, rfl⟩

theorem preG_apply {n : Nat} (h : (⟨2, ![n, 100]⟩ : Shape).ReducesTo [1] ⟨1, ![n]⟩) (hu : 0 < (⟨0, ![]⟩ : Shape).numel)
    (h0 : (⟨0, ![]⟩ : Shape).BroadcastsInDim ⟨1, ![n]⟩ ![]) (x : (⟨2, ![n, 100]⟩ : Shape).Idx → Ideal .f32) (r : Fin n) :
    preG h hu h0 x (ix1 r) = Ideal.cmp .olt (FloatOps.absf (F := Ideal) (φ := .f32) (top (rowOf x r))) ⊤ := by
  have e : preG h hu h0 x (ix1 r) = Ideal.cmp .olt (FloatOps.absf (F := Ideal) (φ := .f32)
      (Host.reduce FloatOps.maximumf x (constant ⟨0, ![]⟩ .f32 0xFF800000#32) h hu (ix1 r))) (Ideal.ofBits .f32 0x7F800000#32) := rfl
  rw [e, reduce_max_rows, ofBits_neg_inf, ofBits_inf]
  rfl

theorem pre_eq (x : (⟨2, ![1000000, 100]⟩ : Shape).Idx → Ideal .f32) (y : (⟨1, ![1000000]⟩ : Shape).Idx → BitVec 32) :
    @Cert.Pre_row_max_finite.fn preFacts Ideal _ x y = preG (n := 1000000) preFacts.reducesTo_S1000000x100_S1000000_d1 preFacts.h_S_ preFacts.bcast_S_S1000000 x := by
  unfold Cert.Pre_row_max_finite.fn preG
  rfl

/-- Under the precondition every row's greatest logit is a real number. -/
theorem real_top {x : (⟨2, ![1000000, 100]⟩ : Shape).Idx → Ideal .f32} {y : (⟨1, ![1000000]⟩ : Shape).Idx → BitVec 32}
    (h : @Cert.Pre_row_max_finite.fn preFacts Ideal _ x y = fun _ => 1#1) (r : Fin 1000000) : ∃ m : ℝ, top (rowOf x r) = (m : EReal) := by
  apply real_of_abs_lt_top
  rw [← preG_apply preFacts.reducesTo_S1000000x100_S1000000_d1 preFacts.h_S_ preFacts.bcast_S_S1000000, ← pre_eq x y]
  exact congrFun h (ix1 r)

end Cert.Proof.Val
-- ==== Proof.Val.Spec.lean ====
module

public import proofs.«01_k».proof.Proof.Val.Row

/-!
The calibration error over real numbers: fifteen bins, the rows' confidences and whether each prediction is right.
-/

@[expose] public section

noncomputable section

namespace Cert.Proof.Val

open Idealize.ShloMosaic

/-- The `k`-th of the sixteen edges. -/
def edge (k : Nat) : ℝ := (k : ℝ) / 15

/-- 1 when the confidence `c` falls in bin `k`, else 0. -/
def inBin (c : ℝ) (k : Nat) : ℝ := if edge k < c ∧ c ≤ edge (k + 1) then 1 else 0

/-- The number of rows in bin `k`. -/
def cnt {N : Nat} (c : Fin N → ℝ) (k : Nat) : ℝ := ∑ r, inBin (c r) k

/-- The sum of `a` over the rows in bin `k`. -/
def acc {N : Nat} (c a : Fin N → ℝ) (k : Nat) : ℝ := ∑ r, a r * inBin (c r) k

/-- One bin's term: the gap between mean confidence and accuracy, weighted by the bin's share of the rows. -/
def term {N : Nat} (c a : Fin N → ℝ) (k : Nat) : ℝ :=
  if 0 < cnt c k then |acc c c k / max (cnt c k) 1 - acc c a k / max (cnt c k) 1| * (cnt c k / 1000000) else 0

/-- The expected calibration error. -/
def ece {N : Nat} (c a : Fin N → ℝ) : ℝ := ∑ k : Fin 15, term c a k

theorem max_one_pos (x : ℝ) : 0 < max x 1 := lt_max_of_lt_right zero_lt_one

end Cert.Proof.Val
-- ==== Proof.Val.Reference.lean ====
module

public import proofs.«01_k».proof.Proof.Ref.Value
public import proofs.«01_k».proof.Proof.Val.RefRow
public import proofs.«01_k».proof.Proof.Val.Spec

/-!
What the reference computes of one row: its confidence and whether its prediction is right.
-/

@[expose] public section

set_option maxRecDepth 16384

noncomputable section

namespace Cert.Proof.Val

open Idealize.ShloMosaic Cert.ReferenceIdeal Cert.ReferenceIdeal.Gen

theorem soft_eq (x : S1000000x100.Idx → Ideal .f32) : Ref.soft (F := Ideal) x =
    softG (n := 1000000) reducesTo_S1000000x100_S1000000_d1 h_S_ bcast_S_S1000000 bcast_S1000000_S1000000x1_0 bcast_S1000000x1_S1000000x100_0_1 x := by
  unfold Ref.soft softG expG
  rfl

theorem conf_eq (p : S1000000x100.Idx → Ideal .f32) : Ref.conf (F := Ideal) p =
    Host.reduce FloatOps.maximumf p (constant S_ .f32 0xFF800000#32) reducesTo_S1000000x100_S1000000_d1 h_S_ := by
  unfold Ref.conf
  rfl

theorem right_eq (p : S1000000x100.Idx → Ideal .f32) (y : S1000000.Idx → BitVec 32) : Ref.right (F := Ideal) p y =
    rightG (n := 1000000) reducesTo_S1000000x100_S1000000_d1 h_S_ p y := by
  unfold Ref.right rightG
  rfl

variable {x : S1000000x100.Idx → Ideal .f32} {r : Fin 1000000} {m : ℝ}

/-- The softmax of a row. -/
theorem soft_apply (hm : top (rowOf x r) = (m : EReal)) (k : Fin 100) :
    Ref.soft (F := Ideal) x (ix2 r k) = ((weight (rowOf x r) k * confR (rowOf x r) : ℝ) : EReal) := by
  rw [soft_eq]; exact softG_apply _ _ _ _ _ (by decide) hm k

/-- The reference's confidence. -/
theorem conf_apply (hm : top (rowOf x r) = (m : EReal)) :
    Ref.conf (F := Ideal) (Ref.soft (F := Ideal) x) (ix1 r) = (confR (rowOf x r) : EReal) := by
  rw [conf_eq]; exact confG_apply _ _ hm (soft_apply hm)

/-- The reference's prediction is the first class with the greatest logit. -/
theorem right_apply (hm : top (rowOf x r) = (m : EReal)) (y : S1000000.Idx → BitVec 32) :
    ∃ w, IsFirst (fun j => rowOf x r j = top (rowOf x r)) w ∧ Ref.right (F := Ideal) (Ref.soft (F := Ideal) x) y (ix1 r) = (okR w (y (ix1 r)) : EReal) := by
  rw [right_eq]; exact rightG_apply _ _ hm (soft_apply hm) y

end Cert.Proof.Val
-- ==== Proof.Val.RefBins.lean ====
module

public import proofs.«01_k».proof.Proof.Val.Shapes
public import proofs.«01_k».proof.Proof.Val.Consts
public import proofs.«01_k».proof.Proof.Val.Spec

/-!
The reference's operations over bins, with any number of rows: membership, counts, sums, and the gap of each bin, in
real numbers.
-/

@[expose] public section

noncomputable section

namespace Cert.Proof.Val

open Idealize.ShloMosaic

variable {n : Nat}

/-- Which rows fall in which bin. -/
def inBinG (h1 : (⟨1, ![n]⟩ : Shape).BroadcastsInDim ⟨2, ![1, n]⟩ ![1]) (h2 : (⟨2, ![1, n]⟩ : Shape).BroadcastsInDim ⟨2, ![15, n]⟩ ![0, 1])
    (h3 : (⟨1, ![15]⟩ : Shape).BroadcastsInDim ⟨2, ![15, 1]⟩ ![0]) (h4 : (⟨2, ![15, 1]⟩ : Shape).BroadcastsInDim ⟨2, ![15, n]⟩ ![0, 1])
    (v : (⟨1, ![n]⟩ : Shape).Idx → Ideal .f32) (lo hi : (⟨1, ![15]⟩ : Shape).Idx → Ideal .f32) : (⟨2, ![15, n]⟩ : Shape).Idx → Ideal .f32 :=
  uitofp .f32 (andi
    (cmpf .ogt (broadcastInDim ⟨2, ![15, n]⟩ ![0, 1] h2 (broadcastInDim ⟨2, ![1, n]⟩ ![1] h1 v))
      (broadcastInDim ⟨2, ![15, n]⟩ ![0, 1] h4 (broadcastInDim ⟨2, ![15, 1]⟩ ![0] h3 lo)))
    (cmpf .ole (broadcastInDim ⟨2, ![15, n]⟩ ![0, 1] h2 (broadcastInDim ⟨2, ![1, n]⟩ ![1] h1 v))
      (broadcastInDim ⟨2, ![15, n]⟩ ![0, 1] h4 (broadcastInDim ⟨2, ![15, 1]⟩ ![0] h3 hi))))

theorem andi_bool (a b : Bool) : IntOp.andi (BitVec.ofBool a) (BitVec.ofBool b) = BitVec.ofBool (a && b) := by
  cases a <;> cases b <;> rfl

theorem inBinG_apply (h1 : (⟨1, ![n]⟩ : Shape).BroadcastsInDim ⟨2, ![1, n]⟩ ![1]) (h2 : (⟨2, ![1, n]⟩ : Shape).BroadcastsInDim ⟨2, ![15, n]⟩ ![0, 1])
    (h3 : (⟨1, ![15]⟩ : Shape).BroadcastsInDim ⟨2, ![15, 1]⟩ ![0]) (h4 : (⟨2, ![15, 1]⟩ : Shape).BroadcastsInDim ⟨2, ![15, n]⟩ ![0, 1])
    (hn : n ≠ 1) {v : (⟨1, ![n]⟩ : Shape).Idx → Ideal .f32} {lo hi : (⟨1, ![15]⟩ : Shape).Idx → Ideal .f32} {c : Fin n → ℝ}
    (hv : ∀ r, v (ix1 r) = (c r : EReal)) (hl : ∀ k, lo (ix1 k) = (edge k : EReal)) (hh : ∀ k : Fin 15, hi (ix1 k) = (edge (k + 1) : EReal))
    (k : Fin 15) (r : Fin n) : inBinG h1 h2 h3 h4 v lo hi (ix2 k r) = (inBin (c r) k : EReal) := by
  have e : inBinG h1 h2 h3 h4 v lo hi (ix2 k r) = FloatOps.uitofp .f32 (IntOp.andi
    (FloatOps.cmpf .ogt (broadcastInDim ⟨2, ![15, n]⟩ ![0, 1] h2 (broadcastInDim ⟨2, ![1, n]⟩ ![1] h1 v) (ix2 k r))
      (broadcastInDim ⟨2, ![15, n]⟩ ![0, 1] h4 (broadcastInDim ⟨2, ![15, 1]⟩ ![0] h3 lo) (ix2 k r)))
    (FloatOps.cmpf .ole (broadcastInDim ⟨2, ![15, n]⟩ ![0, 1] h2 (broadcastInDim ⟨2, ![1, n]⟩ ![1] h1 v) (ix2 k r))
      (broadcastInDim ⟨2, ![15, n]⟩ ![0, 1] h4 (broadcastInDim ⟨2, ![15, 1]⟩ ![0] h3 hi) (ix2 k r)))) := rfl
  rw [e, bcast_cols hn, bcast_rows (by decide), bcast_rows (by decide), hv, hl, hh, Ideal.cmpf_def, Ideal.cmpf_def]
  simp only [Ideal.cmp, andi_bool, uitofp_bool, EReal.coe_lt_coe_iff, EReal.coe_le_coe_iff, inBin, Bool.and_eq_true, decide_eq_true_eq]

/-- The gap between mean confidence and accuracy. -/
def gapG (h1 : (⟨1, ![n]⟩ : Shape).BroadcastsInDim ⟨2, ![1, n]⟩ ![1]) (h2 : (⟨2, ![1, n]⟩ : Shape).BroadcastsInDim ⟨2, ![15, n]⟩ ![0, 1])
    (h : (⟨2, ![15, n]⟩ : Shape).ReducesTo [1] ⟨1, ![15]⟩) (hu : 0 < (⟨0, ![]⟩ : Shape).numel)
    (v w : (⟨1, ![n]⟩ : Shape).Idx → Ideal .f32) (b : (⟨2, ![15, n]⟩ : Shape).Idx → Ideal .f32) (d : (⟨1, ![15]⟩ : Shape).Idx → Ideal .f32) :
    (⟨1, ![15]⟩ : Shape).Idx → Ideal .f32 :=
  subf (Host.divf (Host.reduceAdd (mulf (broadcastInDim ⟨2, ![15, n]⟩ ![0, 1] h2 (broadcastInDim ⟨2, ![1, n]⟩ ![1] h1 v)) b)
      (constant ⟨0, ![]⟩ .f32 0x00000000#32) h hu) d)
    (Host.divf (Host.reduceAdd (mulf (broadcastInDim ⟨2, ![15, n]⟩ ![0, 1] h2 (broadcastInDim ⟨2, ![1, n]⟩ ![1] h1 w)) b)
      (constant ⟨0, ![]⟩ .f32 0x00000000#32) h hu) d)

theorem sumG_apply (h1 : (⟨1, ![n]⟩ : Shape).BroadcastsInDim ⟨2, ![1, n]⟩ ![1]) (h2 : (⟨2, ![1, n]⟩ : Shape).BroadcastsInDim ⟨2, ![15, n]⟩ ![0, 1])
    (h : (⟨2, ![15, n]⟩ : Shape).ReducesTo [1] ⟨1, ![15]⟩) (hu : 0 < (⟨0, ![]⟩ : Shape).numel) (hn : n ≠ 1)
    {v : (⟨1, ![n]⟩ : Shape).Idx → Ideal .f32} {b : (⟨2, ![15, n]⟩ : Shape).Idx → Ideal .f32} {c a : Fin n → ℝ}
    (hv : ∀ r, v (ix1 r) = (a r : EReal)) (hb : ∀ k r, b (ix2 k r) = (inBin (c r) k.val : EReal)) (k : Fin 15) :
    Host.reduceAdd (mulf (broadcastInDim ⟨2, ![15, n]⟩ ![0, 1] h2 (broadcastInDim ⟨2, ![1, n]⟩ ![1] h1 v)) b)
      (constant ⟨0, ![]⟩ .f32 0x00000000#32) h hu (ix1 k) = (acc c a k : EReal) := by
  rw [reduce_add_rows, acc, ← coe_sum]
  refine Finset.sum_congr rfl fun r _ => ?_
  have e : (mulf (broadcastInDim ⟨2, ![15, n]⟩ ![0, 1] h2 (broadcastInDim ⟨2, ![1, n]⟩ ![1] h1 v)) b : _ → Ideal .f32) (ix2 k r)
    = broadcastInDim ⟨2, ![15, n]⟩ ![0, 1] h2 (broadcastInDim ⟨2, ![1, n]⟩ ![1] h1 v) (ix2 k r) * b (ix2 k r) := rfl
  rw [e, bcast_cols hn, hv, hb, ← EReal.coe_mul]

theorem countG_apply (h : (⟨2, ![15, n]⟩ : Shape).ReducesTo [1] ⟨1, ![15]⟩) (hu : 0 < (⟨0, ![]⟩ : Shape).numel)
    {b : (⟨2, ![15, n]⟩ : Shape).Idx → Ideal .f32} {c : Fin n → ℝ} (hb : ∀ k r, b (ix2 k r) = (inBin (c r) k.val : EReal)) (k : Fin 15) :
    Host.reduceAdd b (constant ⟨0, ![]⟩ .f32 0x00000000#32) h hu (ix1 k) = (cnt c k : EReal) := by
  rw [reduce_add_rows, cnt, ← coe_sum]
  exact Finset.sum_congr rfl fun r _ => hb k r

theorem div_coe_coe {y : ℝ} (hy : y ≠ 0) (x : ℝ) : Ideal.div (x : EReal) (y : EReal) = ((x / y : ℝ) : EReal) := by
  rw [Ideal.div_coe hy, ← EReal.coe_mul, mul_one_div]

theorem gapG_apply (h1 : (⟨1, ![n]⟩ : Shape).BroadcastsInDim ⟨2, ![1, n]⟩ ![1]) (h2 : (⟨2, ![1, n]⟩ : Shape).BroadcastsInDim ⟨2, ![15, n]⟩ ![0, 1])
    (h : (⟨2, ![15, n]⟩ : Shape).ReducesTo [1] ⟨1, ![15]⟩) (hu : 0 < (⟨0, ![]⟩ : Shape).numel) (hn : n ≠ 1)
    {v w : (⟨1, ![n]⟩ : Shape).Idx → Ideal .f32} {b : (⟨2, ![15, n]⟩ : Shape).Idx → Ideal .f32} {d : (⟨1, ![15]⟩ : Shape).Idx → Ideal .f32} {c a : Fin n → ℝ}
    (hv : ∀ r, v (ix1 r) = (c r : EReal)) (hw : ∀ r, w (ix1 r) = (a r : EReal)) (hb : ∀ k r, b (ix2 k r) = (inBin (c r) k.val : EReal))
    (hd : ∀ k : Fin 15, d (ix1 k) = (max (cnt c k) 1 : ℝ)) (k : Fin 15) :
    gapG h1 h2 h hu v w b d (ix1 k) = ((acc c c k / max (cnt c k) 1 - acc c a k / max (cnt c k) 1 : ℝ) : EReal) := by
  have e : gapG h1 h2 h hu v w b d (ix1 k) = Ideal.div (Host.reduceAdd (mulf (broadcastInDim ⟨2, ![15, n]⟩ ![0, 1] h2 (broadcastInDim ⟨2, ![1, n]⟩ ![1] h1 v)) b)
      (constant ⟨0, ![]⟩ .f32 0x00000000#32) h hu (ix1 k)) (d (ix1 k)) - Ideal.div (Host.reduceAdd (mulf (broadcastInDim ⟨2, ![15, n]⟩ ![0, 1] h2 (broadcastInDim ⟨2, ![1, n]⟩ ![1] h1 w)) b)
      (constant ⟨0, ![]⟩ .f32 0x00000000#32) h hu (ix1 k)) (d (ix1 k)) := rfl
  rw [e, sumG_apply h1 h2 h hu hn hv hb, sumG_apply h1 h2 h hu hn hw hb, hd, div_coe_coe (max_one_pos _).ne', div_coe_coe (max_one_pos _).ne', ← EReal.coe_sub]

/-- The larger of two reals. -/
theorem coe_max (x y : ℝ) : ((max x y : ℝ) : EReal) = max (x : EReal) (y : EReal) := EReal.coe_strictMono.monotone.map_max

/-- The absolute value of a real. -/
theorem abs_coe (x : ℝ) : (FloatOps.absf (x : EReal) : Ideal .f32) = ((|x| : ℝ) : EReal) := by
  have : (FloatOps.absf (x : EReal) : Ideal .f32) = max (x : EReal) (-(x : EReal)) := rfl
  rw [this, ← EReal.coe_neg, abs, ← coe_max]

end Cert.Proof.Val
-- ==== Proof.Val.RefValue.lean ====
module

public import proofs.«01_k».proof.Proof.Val.Reference
public import proofs.«01_k».proof.Proof.Val.RefBins
public import Idealize.ShloMosaic.Lib.Pointwise

/-!
The reference's value in exact arithmetic: the expected calibration error of the rows' confidences and predictions.
-/

@[expose] public section

set_option maxRecDepth 16384

noncomputable section

namespace Cert.Proof.Val

open Idealize.ShloMosaic Cert.ReferenceIdeal Cert.ReferenceIdeal.Gen

theorem edge_mix (k : ℝ) : (0 : EReal) * (1 - ((k : ℝ) : EReal)) + 1 * ((k : ℝ) : EReal) = (k : EReal) := by
  rw [zero_mul, zero_add, one_mul]

theorem lows_apply (k : Fin 15) : Ref.lows (F := Ideal) (ix1 k) = (edge k : EReal) := by
  unfold Ref.lows
  pointwise
  have e0 : (id (constant S_ FTy.f32 0x00000000#32 : S_.Idx → Ideal .f32) ix0 : EReal) = 0 := Ideal.ofBits_zero_f32
  have e1 : (id (constant S_ FTy.f32 0x3F800000#32 : S_.Idx → Ideal .f32) ix0 : EReal) = 1 := Ideal.ofBits_one_f32
  rw [e0, e1, sitofp_ofNat (by omega), ofBits_fifteen, div_coe_coe (by norm_num), edge_mix]
  rfl

theorem highs_apply (k : Fin 15) : Ref.highs (F := Ideal) (ix1 k) = (edge (k + 1) : EReal) := by
  unfold Ref.highs
  pointwise
  have e0 : (id (constant S_ FTy.f32 0x00000000#32 : S_.Idx → Ideal .f32) ix0 : EReal) = 0 := Ideal.ofBits_zero_f32
  have e1 : (id (constant S_ FTy.f32 0x3F800000#32 : S_.Idx → Ideal .f32) ix0 : EReal) = 1 := Ideal.ofBits_one_f32
  rw [e0, e1]
  split
  · rw [sitofp_ofNat (by omega), ofBits_fifteen, div_coe_coe (by norm_num), edge_mix, add_comm 1]
    rfl
  · have hk : (k : Nat) + 1 = 15 := by omega
    rw [hk, edge]; norm_num

theorem inBin_eq (v : S1000000.Idx → Ideal .f32) (lo hi : S15.Idx → Ideal .f32) : Ref.inBin (F := Ideal) v lo hi =
    inBinG (n := 1000000) bcast_S1000000_S1x1000000_1 bcast_S1x1000000_S15x1000000_0_1 bcast_S15_S15x1_0 bcast_S15x1_S15x1000000_0_1 v lo hi := by
  unfold Ref.inBin inBinG
  rfl

theorem gap_eq (v w : S1000000.Idx → Ideal .f32) (b : S15x1000000.Idx → Ideal .f32) (d : S15.Idx → Ideal .f32) : Ref.gap (F := Ideal) v w b d =
    gapG (n := 1000000) bcast_S1000000_S1x1000000_1 bcast_S1x1000000_S15x1000000_0_1 reducesTo_S15x1000000_S15_d1 h_S_ v w b d := by
  unfold Ref.gap gapG
  rfl

theorem total_apply (v w : S15.Idx → Ideal .f32) (s : S15.Idx → BitVec 1) (j : S1.Idx) :
    Ref.total (F := Ideal) v s w j = ∑ k : Fin 15, Scalar.select (s (ix1 k)) (FloatOps.absf (w (ix1 k)) * v (ix1 k)) 0 := by
  unfold Ref.total
  pointwise
  have e0 : (id (constant S_ FTy.f32 0x00000000#32 : S_.Idx → Ideal .f32) ix0 : EReal) = 0 := Ideal.ofBits_zero_f32
  rw [e0]

theorem count_eq (b : S15x1000000.Idx → Ideal .f32) : Ref.count (F := Ideal) b =
    Host.reduceAdd b (constant S_ .f32 0x00000000#32) reducesTo_S15x1000000_S15_d1 h_S_ := by
  unfold Ref.count; rfl

theorem some_eq (v : S15.Idx → Ideal .f32) (k : Fin 15) : Ref.some (F := Ideal) v (ix1 k) = BitVec.ofBool (decide ((0 : EReal) < v (ix1 k))) := by
  unfold Ref.some
  pointwise

theorem share_eq (b : S15x1000000.Idx → Ideal .f32) (k : Fin 15) : Ref.share (F := Ideal) b (ix1 k) =
    Ideal.div (Ref.count (F := Ideal) b (ix1 k)) (Ideal.ofBits .f32 0x49742400#32) := by
  have e : Ref.share (F := Ideal) b = Host.divf (F := Ideal) (φ := .f32) (s := S15) (Ref.count (F := Ideal) b) (broadcastInDim S15 ![] bcast_S_S15 (constant S_ .f32 0x49742400#32)) := by
    unfold Ref.share Ref.count; rfl
  rw [e]; generalize Ref.count (F := Ideal) b = c
  pointwise

theorem divisor_eq (b : S15x1000000.Idx → Ideal .f32) (k : Fin 15) : Ref.divisor (F := Ideal) b (ix1 k) =
    max (Ref.count (F := Ideal) b (ix1 k)) 1 := by
  have e : Ref.divisor (F := Ideal) b = maximumf (F := Ideal) (φ := .f32) (s := S15) (Ref.count (F := Ideal) b) (broadcastInDim S15 ![] bcast_S_S15 (constant S_ .f32 0x3F800000#32)) := by
    unfold Ref.divisor Ref.count; rfl
  rw [e]; generalize Ref.count (F := Ideal) b = c
  pointwise

/-- The reference over rows whose confidences are `c` and whose predictions are right where `a` is 1. -/
theorem value_eq {x : S1000000x100.Idx → Ideal .f32} {y : S1000000.Idx → BitVec 32} {c a : Fin 1000000 → ℝ}
    (hc : ∀ r, Ref.conf (F := Ideal) (Ref.soft (F := Ideal) x) (ix1 r) = (c r : EReal))
    (ha : ∀ r, Ref.right (F := Ideal) (Ref.soft (F := Ideal) x) y (ix1 r) = (a r : EReal)) (j : S1.Idx) :
    Ref.value (F := Ideal) x y j = (ece c a : EReal) := by
  unfold Ref.value
  generalize Ref.conf (F := Ideal) (Ref.soft (F := Ideal) x) = v at *
  generalize Ref.right (F := Ideal) (Ref.soft (F := Ideal) x) y = w at *
  have hb : ∀ k r, Ref.inBin (F := Ideal) v (Ref.lows (F := Ideal)) (Ref.highs (F := Ideal)) (ix2 k r) = (inBin (c r) k.val : EReal) := fun k r => by
    rw [inBin_eq]; exact inBinG_apply _ _ _ _ (by decide) hc lows_apply highs_apply k r
  generalize Ref.inBin (F := Ideal) v (Ref.lows (F := Ideal)) (Ref.highs (F := Ideal)) = b at *
  have hn : ∀ k, Ref.count (F := Ideal) b (ix1 k) = (cnt c k.val : EReal) := fun k => by
    rw [count_eq]; exact countG_apply _ _ hb k
  have hd : ∀ k, Ref.divisor (F := Ideal) b (ix1 k) = (max (cnt c k.val) 1 : ℝ) := fun k => by
    rw [divisor_eq, hn, coe_max]; rfl
  have hg : ∀ k : Fin 15, Ref.gap (F := Ideal) v w b (Ref.divisor (F := Ideal) b) (ix1 k) = ((acc c c k / max (cnt c k) 1 - acc c a k / max (cnt c k) 1 : ℝ) : EReal) := fun k => by
    rw [gap_eq]; exact gapG_apply _ _ _ _ (by decide) hc ha hb hd k
  rw [total_apply, ece, ← coe_sum]
  refine Finset.sum_congr rfl fun k _ => ?_
  rw [some_eq, share_eq, hg, hn, ofBits_million, div_coe_coe (by norm_num), abs_coe, ← EReal.coe_mul, term]
  simp only [← EReal.coe_zero, EReal.coe_lt_coe_iff]
  by_cases h : 0 < cnt c k
  · rw [if_pos h]; simp [Scalar.select, h]
  · rw [if_neg h]; simp [Scalar.select, h]

end Cert.Proof.Val
-- ==== Proof.Val.KRow.lean ====
module

public import proofs.«01_k».proof.Proof.Gen.KernelIdeal.Skeleton
public import proofs.«01_k».proof.Proof.Val.RefRow
public import Idealize.ShloMosaic.Lib.Pointwise

/-!
What the first launch computes of one row of a block: its confidence and whether its prediction is right. Row
`s * 128 + l` of the block is at `(s, l)` of the folded arrays.
-/

@[expose] public section

set_option maxRecDepth 16384

noncomputable section

namespace Cert.Proof.Val

open Idealize.ShloMosaic Cert.KernelIdeal Cert.KernelIdeal.Gen

/-- The row of a block that is folded to `(s, l)`. -/
def pos (s l : Fin 128) : Fin 16384 := ⟨s.val * 128 + l.val, by omega⟩

variable (v : S16384x100.Idx → Ideal .f32) (y : S1x1x16384.Idx → BitVec 32) (s l : Fin 128)

theorem fold_top (f : Fin 100 → EReal) : Finset.fold max (Ideal.ofBits .f32 4286578688#32) f Finset.univ = top f := by
  rw [ofBits_neg_inf, top]

theorem pay3_eq : k0_pay3 (F := Ideal) v (ix2 s l)
    = Ideal.div 1 (∑ k, Ideal.exp (rowOf v (pos s l) k - top (rowOf v (pos s l)))) := by
  pointwise [k0_pay3, k0_pay2, k0_pay1]
  simp only [fold_top]
  rfl

/-- The kernel's confidence. -/
theorem pay3_apply {m : ℝ} (hm : top (rowOf v (pos s l)) = (m : EReal)) :
    k0_pay3 (F := Ideal) v (ix2 s l) = (confR (rowOf v (pos s l)) : EReal) := by
  rw [pay3_eq, one_div_sum hm]

/-- The kernel's prediction is the first class with the greatest logit. -/
theorem pay4_apply : ∃ w, IsFirst (fun j => rowOf v (pos s l) j = top (rowOf v (pos s l))) w ∧
    k0_pay4 (F := Ideal) v y (ix2 s l) = (okR w (y (ix3 0 0 (pos s l))) : EReal) := by
  classical
  refine ⟨Finset.univ.fold IntOp.minsi 2147483647#32 (fun j => if rowOf v (pos s l) j = top (rowOf v (pos s l)) then BitVec.ofNat 32 j.val else 100#32),
    isFirst_fold_minsi _ (exists_top _) _ fun j => rfl, ?_⟩
  pointwise [k0_pay4, k0_pay2, k0_pay1]
  simp only [fold_top]
  rw [okR]
  generalize hw : Finset.fold IntOp.minsi 2147483647#32 (_ : Fin 100 → BitVec 32) Finset.univ = w
  generalize hw' : Finset.fold IntOp.minsi 2147483647#32 (_ : Fin 100 → BitVec 32) Finset.univ = w'
  have e : w = w' := by
    rw [← hw, ← hw']
    congr 1
  subst e
  have e2 : IntOp.cmpi .eq w (y (ix3 0 0 (pos s l))) = BitVec.ofBool (decide (w = y (ix3 0 0 (pos s l)))) := by
    rw [← beq_eq_decide]; rfl
  have h := sitofp_bool (decide (w = y (ix3 0 0 (pos s l))))
  rw [← e2] at h
  simp only [decide_eq_true_eq] at h
  exact h

/-- Past the 576th row of the last block the confidence is replaced by 2. -/
theorem pay75_apply (c : S128x128.Idx → Ideal .f32) : k0_pay75 (F := Ideal) c (ix2 s l)
    = if s.val * 128 + l.val < 576 then c (ix2 s l) else ((2 : ℝ) : EReal) := by
  pointwise [k0_pay75]
  have e : IntOp.cmpi .slt (IntOp.addi (IntOp.muli (BitVec.ofNat 32 s.val) 128#32) (BitVec.ofNat 32 l.val)) 576#32
      = BitVec.ofBool (decide (s.val * 128 + l.val < 576)) := by
    have e1 : IntOp.addi (IntOp.muli (BitVec.ofNat 32 s.val) 128#32) (BitVec.ofNat 32 l.val) = BitVec.ofNat 32 (s.val * 128 + l.val) := by
      apply BitVec.eq_of_toNat_eq
      simp [IntOp.addi, IntOp.muli]
    have e2 : (BitVec.ofNat 32 (s.val * 128 + l.val)).toInt = ((s.val * 128 + l.val : ℕ) : ℤ) := by
      have := s.isLt
      have := l.isLt
      rw [BitVec.toInt_eq_toNat_bmod, BitVec.toNat_ofNat, Nat.mod_eq_of_lt (by omega)]
      exact Int.bmod_eq_of_le (by omega) (by omega)
    have e3 : (576#32).toInt = 576 := by decide
    rw [e1]
    simp only [IntOp.cmpi, BitVec.slt, e2, e3]
    congr 1
    apply decide_eq_decide.2
    omega
  rw [e]
  by_cases h : s.val * 128 + l.val < 576
  · rw [if_pos h, decide_eq_true h]; rfl
  · rw [if_neg h, decide_eq_false h, ← ofBits_two]; rfl

end Cert.Proof.Val
-- ==== Proof.Val.KBlock.lean ====
module

public import proofs.«01_k».proof.Proof.Ideal.Body
public import proofs.«01_k».proof.Proof.Val.Row
public import proofs.«01_k».proof.Proof.Val.Spec
public import proofs.«01_k».proof.Proof.Val.Consts
public import Idealize.ShloMosaic.Lib.Pointwise

/-!
The block that the first launch stores, row by row: column sums of ones, of confidences and of correctness bits over the
positions whose confidence exceeds an edge.
-/

@[expose] public section

set_option maxRecDepth 16384

noncomputable section

namespace Cert.Proof.Val

open Idealize.ShloMosaic Cert.KernelIdeal Cert.KernelIdeal.Gen

/-- Row `q` of the block: the edge is the `q % 16`-th; what is summed is 1, the confidence or the correctness bit. -/
def piece (cf cr : FVec Ideal S128x128 .f32) (q : Fin 48) : FVec Ideal S1x128 .f32 :=
  Ideal.row cf (if q.val < 16 then broadcast S128x128 (Scalar.ofBits .f32 0x3F800000#32) else if q.val < 32 then cf else cr)
    ((Ideal.edges (F := Ideal)).get ⟨q.val % 16, Nat.mod_lt _ (by decide)⟩)

theorem rows_eq (cf cr : FVec Ideal S128x128 .f32) :
    Ideal.rows (F := Ideal) cf cr = List.ofFn fun q : Fin 48 => (⟨S1x128, piece cf cr q⟩ : Σ s : Shape, s.Idx → Ideal .f32) := rfl

theorem outBlk_apply (cf cr : FVec Ideal S128x128 .f32) (q : Fin 48) (l : Fin 128) :
    Ideal.outBlk (F := Ideal) cf cr (ix3 0 q l) = piece cf cr q (ix2 0 l) := by
  have e : Ideal.outBlk (F := Ideal) cf cr (ix3 0 q l) = concatenate S48x128 0 (Ideal.rows (F := Ideal) cf cr) (Ideal.rows_concat cf cr) (ix2 q l) := by
    pointwise [Ideal.outBlk]
  rw [e]
  have key : ∀ (L : List (Σ s : Shape, s.Idx → Ideal .f32)) (hL : L = List.ofFn fun q : Fin 48 => (⟨S1x128, piece cf cr q⟩ : Σ s : Shape, s.Idx → Ideal .f32))
      (h : Shape.Concatenates (L.map (·.1)) S48x128 0), concatenate S48x128 0 L h (ix2 q l) = piece cf cr q (ix2 0 l) := by
    rintro L rfl h
    rw [concatenate_ofFn_unit_apply' 0 (piece cf cr) h rfl]
    congr 1
    funext a
    fin_cases a <;> rfl
  exact key _ (rows_eq cf cr) _

theorem row_apply (cf x : FVec Ideal S128x128 .f32) (b : Ideal .f32) (l : Fin 128) (c v : Fin 128 → ℝ) (e : ℝ)
    (hb : b = (e : EReal)) (hc : ∀ s, cf (ix2 s l) = (c s : EReal)) (hv : ∀ s, x (ix2 s l) = (v s : EReal)) :
    Ideal.row (F := Ideal) cf x b (ix2 0 l) = ((∑ s, if e < c s then v s else 0 : ℝ) : EReal) := by
  subst hb
  pointwise [Ideal.row]
  rw [← coe_sum]
  refine Finset.sum_congr rfl fun s _ => ?_
  rw [hc, hv]
  by_cases h : e < c s
  · rw [if_pos h, if_pos (EReal.coe_lt_coe_iff.2 h)]
  · rw [if_neg h, if_neg (fun h' => h (EReal.coe_lt_coe_iff.1 h')), EReal.coe_zero]

/-- The edges are the multiples of one fifteenth. -/
theorem edges_get (k : Fin 16) : (Ideal.edges (F := Ideal)).get k = (edge k.val : EReal) := by
  have nm : ∀ (a : String) (b : BitVec 32) (r q : ℝ), r = q → (Named.named κ a b : Ideal .f32) = (r : EReal) → (Named.named κ a b : Ideal .f32) = (q : EReal) := by
    rintro a b r q rfl h; exact h
  unfold edge
  fin_cases k
  · exact Ideal.ofBits_zero_f32.trans (by simp)
  · exact nm "edge1" 0x3D888889#32 _ _ (by norm_num) (IdealRules.named_const.ideal_named_scalar _ _ _ _ rfl)
  · exact nm "edge2" 0x3E088889#32 _ _ (by norm_num) (IdealRules.named_const.ideal_named_scalar _ _ _ _ rfl)
  · exact nm "edge3" 0x3E4CCCCD#32 _ _ (by norm_num) (IdealRules.named_const.ideal_named_scalar _ _ _ _ rfl)
  · exact nm "edge4" 0x3E888889#32 _ _ (by norm_num) (IdealRules.named_const.ideal_named_scalar _ _ _ _ rfl)
  · exact nm "edge5" 0x3EAAAAAB#32 _ _ (by norm_num) (IdealRules.named_const.ideal_named_scalar _ _ _ _ rfl)
  · exact nm "edge6" 0x3ECCCCCD#32 _ _ (by norm_num) (IdealRules.named_const.ideal_named_scalar _ _ _ _ rfl)
  · exact nm "edge7" 0x3EEEEEEF#32 _ _ (by norm_num) (IdealRules.named_const.ideal_named_scalar _ _ _ _ rfl)
  · exact nm "edge8" 0x3F088889#32 _ _ (by norm_num) (IdealRules.named_const.ideal_named_scalar _ _ _ _ rfl)
  · exact nm "edge9" 0x3F19999A#32 _ _ (by norm_num) (IdealRules.named_const.ideal_named_scalar _ _ _ _ rfl)
  · exact nm "edge10" 0x3F2AAAAB#32 _ _ (by norm_num) (IdealRules.named_const.ideal_named_scalar _ _ _ _ rfl)
  · exact nm "edge11" 0x3F3BBBBC#32 _ _ (by norm_num) (IdealRules.named_const.ideal_named_scalar _ _ _ _ rfl)
  · exact nm "edge12" 0x3F4CCCCD#32 _ _ (by norm_num) (IdealRules.named_const.ideal_named_scalar _ _ _ _ rfl)
  · exact nm "edge13" 0x3F5DDDDE#32 _ _ (by norm_num) (IdealRules.named_const.ideal_named_scalar _ _ _ _ rfl)
  · exact nm "edge14" 0x3F6EEEEF#32 _ _ (by norm_num) (IdealRules.named_const.ideal_named_scalar _ _ _ _ rfl)
  · exact Ideal.ofBits_one_f32.trans (by norm_num)

/-- What row `q` sums, as a real. -/
def part (c a : ℝ) (q : Fin 48) : ℝ := if q.val < 16 then 1 else if q.val < 32 then c else a

/-- The block over real confidences and correctness bits. -/
theorem outBlk_real (cf cr : FVec Ideal S128x128 .f32) (c a : Fin 128 → Fin 128 → ℝ) (hc : ∀ s l, cf (ix2 s l) = (c s l : EReal))
    (ha : ∀ s l, cr (ix2 s l) = (a s l : EReal)) (q : Fin 48) (l : Fin 128) :
    Ideal.outBlk (F := Ideal) cf cr (ix3 0 q l) = ((∑ s, if edge (q.val % 16) < c s l then part (c s l) (a s l) q else 0 : ℝ) : EReal) := by
  rw [outBlk_apply, piece]
  refine row_apply _ _ _ _ (fun s => c s l) (fun s => part (c s l) (a s l) q) _ (edges_get _) (fun s => hc s l) fun s => ?_
  unfold part
  by_cases h : q.val < 16
  · rw [if_pos h, if_pos h]; exact Ideal.ofBits_one_f32
  · rw [if_neg h, if_neg h]
    by_cases h' : q.val < 32
    · rw [if_pos h', if_pos h']; exact hc s l
    · rw [if_neg h', if_neg h']; exact ha s l

end Cert.Proof.Val
-- ==== Proof.Val.KReads.lean ====
module

public import proofs.«01_k».proof.Proof.Ideal.Region0
public import proofs.«01_k».proof.Proof.Ideal.Region1
public import Idealize.ShloMosaic.Lib.Pointwise
public import Idealize.ShloMosaic.Lib.Pipeline.ValueKit.Geometry

/-!
The launches' blocks at coordinates: block `t` of an array starts at block index `t`.
-/

@[expose] public section

set_option maxRecDepth 16384

noncomputable section

namespace Cert.Proof.Val

open Idealize.ShloMosaic Cert.KernelIdeal Cert.KernelIdeal.Gen
open Idealize.ShloMosaic.TcCoe

variable {F : FTy → Type} [FloatOps F] [Named F]

theorem coord (t : Fin cfg0.N) : (grid0.coords t 0).val = t.val := by
  revert t; exact (by decide +kernel : ∀ t : Fin grid0.N, (grid0.coords t 0).val = t.val)

theorem cond2 (t : Fin cfg0.N) : k0_cond2 (grid0.coords t) = 1#1 ↔ t.val = 61 := by
  revert t; exact (by decide +kernel : ∀ t : Fin grid0.N, k0_cond2 (grid0.coords t) = 1#1 ↔ t.val = 61)

theorem index0 : ∀ t : Fin cfg0.N, win0_0.index t = ![t.val, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index1_0 : ∀ t : Fin cfg1.N, win1_0.index t = ![0, 0, 0] := (by decide +kernel : ∀ t : Fin grid1.N, _)

theorem xsize0 : ∀ t : Fin cfg0.N, win0_0.xsize (grid0.coords t) 0 = if t.val = 61 then 576 else 16384 := (by decide +kernel : ∀ t : Fin grid0.N, _)
theorem xsize1 : ∀ t : Fin cfg0.N, win0_0.xsize (grid0.coords t) 1 = 100 := (by decide +kernel : ∀ t : Fin grid0.N, _)

variable (V : (c : Dev nD) → (b : Ref sig .tc) → Buf (Elt F) ((c : Thread nD τ).loc b)) (c : Dev nD)

/-- A row of a block that lies inside the array is moved. -/
theorem moved (t : Fin cfg0.N) (p : Fin 16384) (k : Fin 100) (h : t.val * 16384 + p.val < 1000000) :
    win0_0.moved (grid0.coords t) (ix2 p k) = true := by
  rw [Pipeline.Window.moved_iff]
  have ht : t.val < 62 := t.isLt
  intro a
  fin_cases a
  · have e := xsize0 t
    show p.val < win0_0.xsize (grid0.coords t) 0
    rw [e]; split <;> omega
  · have e := xsize1 t
    show k.val < win0_0.xsize (grid0.coords t) 1
    rw [e]; omega

/-- The block of logits, on a row inside the array. -/
theorem logits_apply (t : Fin cfg0.N) (d) (p : Fin 16384) (k : Fin 100) (h : t.val * 16384 + p.val < 1000000) :
    Ideal.R0.logits V c t d (ix2 p k) = V c main_arg0 (ix2 ⟨t.val * 16384 + p.val, h⟩ k) := by
  have hm := moved t p k h
  show (if h : win0_0.moved (grid0.coords t) (ix2 p k) = true then Ideal.R0.blk0 V c t fun a => ⟨((ix2 p k : S16384x100.Idx) a).val, (win0_0.moved_iff _ _).mp h a⟩ else d (ix2 p k)) = _
  rw [dif_pos hm]
  unfold Ideal.R0.blk0
  blk_simp
  congr 1
  funext a
  apply Fin.ext
  fin_cases a <;> blk_simp [index0] <;> simp

/-- The block of labels. -/
theorem labels_apply (t : Fin cfg0.N) (p : Fin 16384) :
    Ideal.R0.labels V c t (ix3 0 0 p) = V c main_v1 (ix3 (⟨t.val, t.isLt⟩ : Fin 62) 0 p) := by
  unfold Ideal.R0.labels
  blk_simp
  congr 1
  funext a
  apply Fin.ext
  fin_cases a <;> blk_simp [index1] <;> simp

/-- A block of the first launch's result. -/
theorem read_out (X : S62x48x128.Idx → F .f32) (t : Fin cfg0.N) (q : Fin 48) (l : Fin 128) :
    ((cfg0.win 2).blk t).view.read (Elt F) X (ix3 0 q l) = X (ix3 (⟨t.val, t.isLt⟩ : Fin 62) q l) := by
  blk_simp
  congr 1
  funext a
  apply Fin.ext
  fin_cases a <;> blk_simp [index2] <;> simp

/-- The second launch's one block is the whole array. -/
theorem parts_apply (t : Fin 62) (q : Fin 48) (l : Fin 128) :
    Ideal.R1.parts V c (ix3 t q l) = V c main_v2 (ix3 t q l) := by
  unfold Ideal.R1.parts
  blk_simp
  congr 1
  funext a
  apply Fin.ext
  fin_cases a <;> blk_simp [index1_0] <;> simp

/-- The second launch's result. -/
theorem result_eq : Ideal.R1.result V c = k1_pay1 (F := F) (Ideal.R1.parts V c) := by
  unfold Ideal.R1.result
  refine (Ideal.R1.dat V c).arrAt_eq_of_after_last 1 t1_0 (by decide +kernel) _ fun j => ?_
  blk_simp
  rfl

end Cert.Proof.Val
-- ==== Proof.Val.KHost.lean ====
module

public import proofs.«01_k».proof.Proof.Ideal.Run
public import Idealize.ShloMosaic.Lib.Pointwise
public import Idealize.ShloMosaic.Lib.KernelVsHost

/-!
What the host operations compute: the labels padded and cut in blocks before the launches, and the first entry after them.
-/

@[expose] public section

set_option maxRecDepth 16384

noncomputable section

namespace Cert.Proof.Val

open Idealize.ShloMosaic Cert.KernelIdeal Cert.KernelIdeal.Gen
open Idealize.ShloMosaic.TcCoe

variable {F : FTy → Type} [FloatOps F] [Named F]

/-- Labels padded and cut in `b` blocks, read at a row that exists. -/
theorem pad_cut {n b : Nat} {hi : Nat} (h : (⟨1, ![n]⟩ : Shape).Pads ![0] ![hi] ![0] ⟨1, ![b * 16384]⟩)
    (hs : (⟨1, ![b * 16384]⟩ : Shape).ShapeCasts ⟨3, ![b, 1, 16384]⟩) {u : Shape} (hu : 0 < u.numel)
    (x : (⟨1, ![n]⟩ : Shape).Idx → BitVec 32) (v : u.Idx → BitVec 32) (t : Fin b) (p : Fin 16384) (hr : t.val * 16384 + p.val < n) :
    shapeCast ⟨3, ![b, 1, 16384]⟩ (pad ⟨1, ![b * 16384]⟩ ![0] ![hi] ![0] x v h hu) hs (ix3 t 0 p) = x (ix1 ⟨t.val * 16384 + p.val, hr⟩) := by
  have ht : t.val < b := t.isLt
  have hp : p.val < 16384 := p.isLt
  have hlt : t.val * 16384 + p.val < b * 16384 := by omega
  have e : Shape.reshapeEquiv hs (ix3 t 0 p) = ix1 ⟨t.val * 16384 + p.val, hlt⟩ := by
    apply Shape.reshapeEquiv_eq_of_vals hs _ _ (t.val * 16384 + p.val) _
    · exact rowMajor_val1 _
    · exact rowMajor_val3 (ix3 t 0 p) 16384 16384 (by simp) (by simp)
    · simp
  show pad ⟨1, ![b * 16384]⟩ ![0] ![hi] ![0] x v h hu (Shape.reshapeEquiv hs (ix3 t 0 p)) = _
  rw [e]
  refine pad_apply_of_inside _ _ _ x v h hu _ _ fun a => ?_
  obtain rfl : a = 0 := Subsingleton.elim _ _
  show t.val * 16384 + p.val = 0 + (t.val * 16384 + p.val) * 1
  omega

variable (m : (ℓ : Loc nD τ sig) → Buf (Elt F) ℓ) (c : Dev nD)

theorem V3_v1 : V3 m c main_v1 = shapeCast S62x1x16384 (pad S1015808 ![0] ![15808] ![0] (m ((c : Thread nD τ).loc main_arg1))
    (constantI S_ 32 0#32) pads_S1000000_S1015808_0158080 h_S_) shapeCasts_S1015808_S62x1x16384 := by
  unfold V3 V2 V1 V0 hostOps0 hostOps0_1 hostOps0_2
  after_results
  rfl

theorem W6_v5 (X : Ideal.Run.O (F := F)) : Ideal.Run.W6 m X c main_v5 = shapeCast S1 (extractStridedSlice S1x1 ![0, 0]
    (Ideal.Run.W5 m X c main_v3) slices_S1x128_S1x1_0_0) shapeCasts_S1x1_S1 := by
  unfold Ideal.Run.W6 hostOps2
  after_results
  rfl

end Cert.Proof.Val
-- ==== Proof.Val.KSum.lean ====
module

public import proofs.«01_k».proof.Proof.Val.Spec

/-!
Sums over the positions of the blocks are sums over the rows of the array: position `(t, s, l)` is row
`t * 16384 + s * 128 + l`, and positions past the last row contribute nothing.
-/

@[expose] public section

noncomputable section

namespace Cert.Proof.Val

/-- The row at a position. -/
def row (t : Fin 62) (s l : Fin 128) : Nat := t.val * 16384 + (s.val * 128 + l.val)

theorem sum_rows {n : Nat} (hn : n ≤ 62 * 16384) (f : Fin 62 → Fin 128 → Fin 128 → ℝ) (g : Fin n → ℝ)
    (hv : ∀ t s l (h : row t s l < n), f t s l = g ⟨row t s l, h⟩) (hp : ∀ t s l, ¬ row t s l < n → f t s l = 0) :
    ∑ l, ∑ t, ∑ s, f t s l = ∑ r, g r := by
  have e : ∑ l, ∑ t, ∑ s, f t s l = ∑ p : Fin 128 × Fin 62 × Fin 128, f p.2.1 p.2.2 p.1 := by
    rw [Fintype.sum_prod_type]
    refine Finset.sum_congr rfl fun l _ => ?_
    rw [Fintype.sum_prod_type]
  rw [e]
  symm
  refine Finset.sum_of_injOn (fun r : Fin n => ((⟨r.val % 128, by omega⟩, ⟨r.val / 16384, by omega⟩, ⟨r.val / 128 % 128, by omega⟩) : Fin 128 × Fin 62 × Fin 128))
    ?_ ?_ ?_ ?_
  · intro r _ r' _ h
    simp only [Prod.mk.injEq, Fin.mk.injEq] at h
    ext
    omega
  · intro r _
    simp
  · rintro ⟨l, t, s⟩ _ h
    apply hp
    intro hr
    apply h
    refine ⟨⟨row t s l, hr⟩, by simp, ?_⟩
    simp only [Prod.mk.injEq, Fin.ext_iff, row]
    omega
  · intro r _
    have hr : row ⟨r.val / 16384, by omega⟩ ⟨r.val / 128 % 128, by omega⟩ ⟨r.val % 128, by omega⟩ = r.val := by
      simp only [row]; omega
    have h := hv ⟨r.val / 16384, by omega⟩ ⟨r.val / 128 % 128, by omega⟩ ⟨r.val % 128, by omega⟩ (by rw [hr]; exact r.isLt)
    rw [h]
    congr 1
    ext
    exact hr.symm

theorem edge_succ_lt {k : Nat} {c : ℝ} (h : edge (k + 1) < c) : edge k < c := by
  refine lt_trans ?_ h
  unfold edge
  push_cast
  linarith

/-- Above one edge and not above the next one is in the bin between. -/
theorem sub_eq_inBin (c v : ℝ) (k : Nat) : (if edge k < c then v else 0) - (if edge (k + 1) < c then v else 0) = v * inBin c k := by
  unfold inBin
  by_cases h1 : edge (k + 1) < c
  · rw [if_pos (edge_succ_lt h1), if_pos h1, if_neg (fun h => absurd h.2 (not_le.2 h1)), sub_self, mul_zero]
  · by_cases h0 : edge k < c
    · rw [if_pos h0, if_neg h1, if_pos ⟨h0, not_lt.1 h1⟩, sub_zero, mul_one]
    · rw [if_neg h0, if_neg h1, if_neg (fun h => h0 h.1), sub_zero, mul_zero]

/-- A confidence of 2 is above every edge. -/
theorem inBin_two {k : Nat} (hk : k < 15) : inBin 2 k = 0 := by
  have : (k : ℝ) ≤ 14 := by exact_mod_cast Nat.le_of_lt_succ hk
  unfold inBin edge
  rw [if_neg]
  rintro ⟨-, h⟩
  push_cast at h
  linarith

/-- The positions above one edge less those above the next one: the rows in the bin. -/
theorem sum_inBin {n : Nat} (hn : n ≤ 62 * 16384) (kc kv : Fin 62 → Fin 128 → Fin 128 → ℝ) (c v : Fin n → ℝ)
    (hc : ∀ t s l (h : row t s l < n), kc t s l = c ⟨row t s l, h⟩) (hp : ∀ t s l, ¬ row t s l < n → kc t s l = 2)
    (hv : ∀ t s l (h : row t s l < n), kv t s l = v ⟨row t s l, h⟩) {k : Nat} (hk : k < 15) :
    (∑ l, ∑ t, ∑ s, if edge k < kc t s l then kv t s l else 0) - (∑ l, ∑ t, ∑ s, if edge (k + 1) < kc t s l then kv t s l else 0)
      = ∑ r, v r * inBin (c r) k := by
  rw [← sum_rows hn (fun t s l => kv t s l * inBin (kc t s l) k) (fun r => v r * inBin (c r) k)
    (fun t s l h => by rw [hc t s l h, hv t s l h]) (fun t s l h => by rw [hp t s l h, inBin_two hk, mul_zero])]
  rw [← Finset.sum_sub_distrib]
  refine Finset.sum_congr rfl fun l _ => ?_
  rw [← Finset.sum_sub_distrib]
  refine Finset.sum_congr rfl fun t _ => ?_
  rw [← Finset.sum_sub_distrib]
  exact Finset.sum_congr rfl fun s _ => sub_eq_inBin _ _ _

/-- The second launch's term is the error's. -/
theorem term_eq (N C A : ℝ) : (if 0 < N then |C - A| / max N 1 * (N * (1 / 1000000)) else 0)
    = if 0 < N then |C / max N 1 - A / max N 1| * (N / 1000000) else 0 := by
  by_cases h : 0 < N
  · have hd : 0 < max N 1 := max_one_pos _
    rw [if_pos h, if_pos h, ← sub_div, abs_div, abs_of_pos hd, mul_one_div]
  · rw [if_neg h, if_neg h]

end Cert.Proof.Val
-- ==== Proof.Val.KValue.lean ====
module

public import proofs.«01_k».proof.Proof.Val.KRow
public import proofs.«01_k».proof.Proof.Val.KBlock
public import proofs.«01_k».proof.Proof.Val.KReads
public import proofs.«01_k».proof.Proof.Val.KHost
public import proofs.«01_k».proof.Proof.Val.KSum

/-!
The first launch's result in real numbers: at each position of a block the confidence (2 past the last row) and whether the
prediction is right, and from them every entry of the result.
-/

@[expose] public section

set_option maxRecDepth 16384

noncomputable section

namespace Cert.Proof.Val

open Idealize.ShloMosaic Cert.KernelIdeal Cert.KernelIdeal.Gen
open Idealize.ShloMosaic.TcCoe

variable (m : (ℓ : Loc nD τ sig) → Buf (Elt Ideal) ℓ) (c : Dev nD)

/-- The logits. -/
abbrev argX : S1000000x100.Idx → EReal := m ((c : Thread nD τ).loc main_arg0)
/-- The labels. -/
abbrev argY : S1000000.Idx → BitVec 32 := m ((c : Thread nD τ).loc main_arg1)

theorem V3_arg0 : V3 m c main_arg0 = argX m c :=
  (V3_of m c main_arg0 (by decide)).trans ((V2_of m c main_arg0 (by decide)).trans (V1_of m c main_arg0 (by decide)))

/-- The confidence at a position. -/
def kc (x : S1000000x100.Idx → EReal) (t : Fin 62) (s l : Fin 128) : ℝ :=
  if h : row t s l < 1000000 then confR (rowOf (n := 1000000) x ⟨row t s l, h⟩) else 2

abbrev lg (t : Fin 62) (d : S16384x100.Idx → EReal) : S16384x100.Idx → EReal := Ideal.R0.logits (F := Ideal) (fun c b => V3 m c b) c t d

theorem rowOf_logits (t : Fin 62) (d : S16384x100.Idx → EReal) (s l : Fin 128) (h : row t s l < 1000000) :
    rowOf (n := 16384) (lg m c t d) (pos s l) = rowOf (n := 1000000) (argX m c) ⟨row t s l, h⟩ := by
  funext k
  exact (logits_apply (fun c b => V3 m c b) c t d (pos s l) k h).trans (congrFun (V3_arg0 m c) _)

variable {m c} in
theorem conf_real (hm : ∀ r : Fin 1000000, ∃ M : ℝ, top (rowOf (n := 1000000) (argX m c) r) = (M : EReal)) (t : Fin 62) (d : S16384x100.Idx → EReal) (s l : Fin 128) :
    Ideal.confAt (F := Ideal) (grid0.coords t) (lg m c t d) (ix2 s l) = (kc (argX m c) t s l : EReal) := by
  have hv : ∀ h : row t s l < 1000000, k0_pay3 (F := Ideal) (lg m c t d) (ix2 s l) = (confR (rowOf (n := 1000000) (argX m c) ⟨row t s l, h⟩) : EReal) := by
    intro h
    obtain ⟨M, hM⟩ := hm ⟨row t s l, h⟩
    rw [← rowOf_logits m c t d s l h] at hM ⊢
    exact pay3_apply _ s l hM
  have hs : s.val < 128 := s.isLt
  have hl : l.val < 128 := l.isLt
  have ht : t.val < 62 := t.isLt
  unfold Ideal.confAt kc
  by_cases h61 : t.val = 61
  · rw [if_pos ((cond2 t).2 h61), pay75_apply]
    by_cases h : row t s l < 1000000
    · rw [dif_pos h, if_pos (by unfold row at h; omega), hv h]
    · rw [dif_neg h, if_neg (by unfold row at h; omega)]
  · rw [if_neg (fun h => h61 ((cond2 t).1 h))]
    have h : row t s l < 1000000 := by unfold row; omega
    rw [dif_pos h, hv h]

abbrev lb (t : Fin 62) : S1x1x16384.Idx → BitVec 32 := Ideal.R0.labels (F := Ideal) (fun c b => V3 m c b) c t

theorem labels_real (t : Fin 62) (s l : Fin 128) (h : row t s l < 1000000) :
    lb m c t (ix3 0 0 (pos s l)) = argY m c (ix1 ⟨row t s l, h⟩) := by
  refine (labels_apply (fun c b => V3 m c b) c t (pos s l)).trans ?_
  refine (congrFun (V3_v1 m c) _).trans ?_
  exact pad_cut (n := 1000000) (b := 62) (hi := 15808) pads_S1000000_S1015808_0158080 shapeCasts_S1015808_S62x1x16384 h_S_ _ _ t (pos s l) h

theorem right_real (t : Fin 62) (d : S16384x100.Idx → EReal) (s l : Fin 128) :
    ∃ a : ℝ, k0_pay4 (F := Ideal) (lg m c t d) (lb m c t) (ix2 s l) = (a : EReal) ∧
      ∀ (h : row t s l < 1000000) (w : BitVec 32),
        IsFirst (fun j => rowOf (n := 1000000) (argX m c) ⟨row t s l, h⟩ j = top (rowOf (n := 1000000) (argX m c) ⟨row t s l, h⟩)) w →
          a = okR w (argY m c (ix1 ⟨row t s l, h⟩)) := by
  obtain ⟨w, hw, e⟩ := pay4_apply (lg m c t d) (lb m c t) s l
  refine ⟨_, e, fun h w' hw' => ?_⟩
  rw [rowOf_logits m c t d s l h] at hw
  rw [hw.unique hw', labels_real m c t s l h]

/-- The entry of the first launch's result at block `t`, row `q`, column `l`. -/
def ent (x : S1000000x100.Idx → EReal) (ka : Fin 62 → Fin 128 → Fin 128 → ℝ) (t : Fin 62) (q : Fin 48) (l : Fin 128) : ℝ :=
  ∑ s, if edge (q.val % 16) < kc x t s l then part (kc x t s l) (ka t s l) q else 0

variable {m c} in
theorem parts_real (hm : ∀ r : Fin 1000000, ∃ M : ℝ, top (rowOf (n := 1000000) (argX m c) r) = (M : EReal)) {X : S62x48x128.Idx → EReal}
    (hX : Ideal.Run.sel (F := Ideal) m X c) : ∃ ka : Fin 62 → Fin 128 → Fin 128 → ℝ,
      (∀ t q l, X (ix3 t q l) = (ent (argX m c) ka t q l : EReal)) ∧
      ∀ t s l (h : row t s l < 1000000) (w : BitVec 32),
        IsFirst (fun j => rowOf (n := 1000000) (argX m c) ⟨row t s l, h⟩ j = top (rowOf (n := 1000000) (argX m c) ⟨row t s l, h⟩)) w →
          ka t s l = okR w (argY m c (ix1 ⟨row t s l, h⟩)) := by
  have hX' : ∀ t : Fin 62, ∃ d : S16384x100.Idx → EReal,
      ((cfg0.win 2).blk t).view.read (Elt Ideal) X = Ideal.stored (F := Ideal) (grid0.coords t) (lg m c t d) (lb m c t) := hX
  choose d hd using hX'
  choose ka hka using fun (t : Fin 62) (s l : Fin 128) => right_real m c t (d t) s l
  refine ⟨ka, fun t q l => ?_, fun t s l => (hka t s l).2⟩
  rw [← read_out (F := Ideal) X t q l, hd t]
  exact outBlk_real _ _ (fun s l => kc (argX m c) t s l) (fun s l => ka t s l) (fun s l => conf_real hm t (d t) s l) (fun s l => (hka t s l).1) q l

end Cert.Proof.Val
-- ==== Proof.Val.KFinal.lean ====
module

public import proofs.«01_k».proof.Proof.Gen.KernelIdeal.Skeleton
public import proofs.«01_k».proof.Proof.Val.RefBins
public import Idealize.ShloMosaic.Lib.Pointwise

/-!
What the second launch computes of the first one's result.
-/

@[expose] public section

set_option maxRecDepth 16384

noncomputable section

namespace Cert.Proof.Val

open Idealize.ShloMosaic Cert.KernelIdeal Cert.KernelIdeal.Gen

/-- Row `q` of every block, summed. -/
def tot (X : Fin 62 → Fin 48 → Fin 128 → ℝ) (q : Fin 48) : ℝ := ∑ l, ∑ t, X t q l

/-- The sum of row `o + k` less that of the next one. -/
def dif (X : Fin 62 → Fin 48 → Fin 128 → ℝ) (o : Nat) (ho : o ≤ 32) (k : Fin 15) : ℝ :=
  tot X ⟨o + k.val, by omega⟩ - tot X ⟨o + 1 + k.val, by omega⟩

/-- One bin's term over real sums is real. -/
theorem bin_term (n0 n1 c0 c1 a0 a1 : ℝ) :
    (if (0 : EReal) < (n0 : EReal) - (n1 : EReal) then
      Ideal.div (FloatOps.absf (F := Ideal) (φ := .f32) ((c0 : EReal) - (c1 : EReal) - ((a0 : EReal) - (a1 : EReal)))) (max ((n0 : EReal) - (n1 : EReal)) 1)
        * (((n0 : EReal) - (n1 : EReal)) * ((1 / 1000000 : ℝ) : EReal)) else 0)
      = ((if 0 < n0 - n1 then |c0 - c1 - (a0 - a1)| / max (n0 - n1) 1 * ((n0 - n1) * (1 / 1000000)) else 0 : ℝ) : EReal) := by
  simp only [← EReal.coe_sub, abs_coe]
  by_cases h : 0 < n0 - n1
  · rw [if_pos h, if_pos (EReal.coe_pos.2 h), ← EReal.coe_one, ← coe_max, div_coe_coe (max_one_pos _).ne', ← EReal.coe_mul, ← EReal.coe_mul]
  · rw [if_neg h, if_neg (fun h' => h (EReal.coe_pos.1 h')), EReal.coe_zero]

theorem pay1_real (v : S62x48x128.Idx → Ideal .f32) (X : Fin 62 → Fin 48 → Fin 128 → ℝ) (hX : ∀ t q l, v (ix3 t q l) = (X t q l : EReal))
    (l : Fin 128) : k1_pay1 (F := Ideal) v (ix2 0 l)
      = ((∑ k : Fin 15, if 0 < dif X 0 (by decide) k then
          |dif X 16 (by decide) k - dif X 32 (by decide) k| / max (dif X 0 (by decide) k) 1 * (dif X 0 (by decide) k * (1 / 1000000)) else 0 : ℝ) : EReal) := by
  pointwise [k1_pay1]
  rw [← coe_sum]
  refine Finset.sum_congr rfl fun k _ => ?_
  simp only [hX, coe_sum, named_inv_n]
  have z : dif X 0 (by decide) k = tot X ⟨k.val, by omega⟩ - tot X ⟨1 + k.val, by omega⟩ := by
    unfold dif; simp only [Nat.zero_add]
  rw [z]
  exact bin_term _ _ _ _ _ _

end Cert.Proof.Val
-- ==== Proof.Val.KEnd.lean ====
module

public import proofs.«01_k».proof.Proof.Val.KValue
public import proofs.«01_k».proof.Proof.Val.KFinal

/-!
The kernel's result is the calibration error of the confidences and the correctness bits.
-/

@[expose] public section

set_option maxRecDepth 16384

noncomputable section

namespace Cert.Proof.Val

open Idealize.ShloMosaic Cert.KernelIdeal Cert.KernelIdeal.Gen
open Idealize.ShloMosaic.TcCoe

theorem tot_ent (x : S1000000x100.Idx → EReal) (ka kv : Fin 62 → Fin 128 → Fin 128 → ℝ) (q : Fin 48) (k : Nat) (hk : q.val % 16 = k)
    (hv : ∀ t s l, part (kc x t s l) (ka t s l) q = kv t s l) :
    tot (ent x ka) q = ∑ l, ∑ t, ∑ s, if edge k < kc x t s l then kv t s l else 0 := by
  unfold tot ent
  simp only [hk, hv]

/-- The difference of two consecutive rows' totals is a sum over the array's rows in the bin. -/
theorem dif_ent (x : S1000000x100.Idx → EReal) (ka kv : Fin 62 → Fin 128 → Fin 128 → ℝ) (v : Fin 1000000 → ℝ) (o : Nat) (ho : o ≤ 32) (h16 : o % 16 = 0) (k : Fin 15)
    (hp : ∀ q : Fin 48, o ≤ q.val → q.val < o + 16 → ∀ t s l, part (kc x t s l) (ka t s l) q = kv t s l)
    (hv : ∀ t s l (h : row t s l < 1000000), kv t s l = v ⟨row t s l, h⟩) :
    dif (ent x ka) o ho k = ∑ r, v r * inBin (confR (rowOf (n := 1000000) x r)) k := by
  have hk := k.isLt
  unfold dif
  rw [tot_ent x ka kv ⟨o + k.val, by omega⟩ k.val (by show (o + k.val) % 16 = k.val; omega) (hp _ (by show o ≤ o + k.val; omega) (by show o + k.val < o + 16; omega)),
    tot_ent x ka kv ⟨o + 1 + k.val, by omega⟩ (k.val + 1) (by show (o + 1 + k.val) % 16 = k.val + 1; omega)
      (hp _ (by show o ≤ o + 1 + k.val; omega) (by show o + 1 + k.val < o + 16; omega))]
  exact sum_inBin (n := 1000000) (by norm_num) (kc x) kv (fun r => confR (rowOf (n := 1000000) x r)) v
    (fun t s l h => by unfold kc; rw [dif_pos h]) (fun t s l h => by unfold kc; rw [dif_neg h]) hv hk

/-- The sum of the terms over the first launch's entries is the error. -/
theorem sum_ent (x : S1000000x100.Idx → EReal) (ka : Fin 62 → Fin 128 → Fin 128 → ℝ) (a : Fin 1000000 → ℝ)
    (ha : ∀ t s l (h : row t s l < 1000000), ka t s l = a ⟨row t s l, h⟩) :
    (∑ k : Fin 15, if 0 < dif (ent x ka) 0 (by decide) k then
      |dif (ent x ka) 16 (by decide) k - dif (ent x ka) 32 (by decide) k| / max (dif (ent x ka) 0 (by decide) k) 1 * (dif (ent x ka) 0 (by decide) k * (1 / 1000000)) else 0 : ℝ)
      = ece (fun r => confR (rowOf (n := 1000000) x r)) a := by
  unfold ece
  refine Finset.sum_congr rfl fun k _ => ?_
  have h0 : dif (ent x ka) 0 (by decide) k = cnt (fun r => confR (rowOf (n := 1000000) x r)) k := by
    rw [dif_ent x ka (fun _ _ _ => 1) (fun _ => 1) 0 (by decide) (by decide) k
      (fun q h1 h2 t s l => by unfold part; rw [if_pos (by omega)]) (fun _ _ _ _ => rfl)]
    unfold cnt
    simp only [one_mul]
  have h1 : dif (ent x ka) 16 (by decide) k = acc (fun r => confR (rowOf (n := 1000000) x r)) (fun r => confR (rowOf (n := 1000000) x r)) k :=
    dif_ent x ka (kc x) (fun r => confR (rowOf (n := 1000000) x r)) 16 (by decide) (by decide) k
      (fun q h1 h2 t s l => by unfold part; rw [if_neg (by omega), if_pos (by omega)]) (fun t s l h => by unfold kc; rw [dif_pos h])
  have h2 : dif (ent x ka) 32 (by decide) k = acc (fun r => confR (rowOf (n := 1000000) x r)) a k :=
    dif_ent x ka ka a 32 (by decide) (by decide) k
      (fun q h1 h2 t s l => by unfold part; rw [if_neg (by omega), if_neg (by omega)]) ha
  rw [h0, h1, h2]
  exact term_eq _ _ _

variable {m : (ℓ : Loc nD τ sig) → Buf (Elt Ideal) ℓ} {c : Dev nD}

/-- The kernel's result. -/
theorem kernel_value (hm : ∀ r : Fin 1000000, ∃ M : ℝ, top (rowOf (n := 1000000) (argX m c) r) = (M : EReal)) {X : S62x48x128.Idx → EReal}
    (hX : Ideal.Run.sel (F := Ideal) m X c) (w : Fin 1000000 → BitVec 32)
    (hw : ∀ r, IsFirst (fun j => rowOf (n := 1000000) (argX m c) r j = top (rowOf (n := 1000000) (argX m c) r)) (w r)) (j : S1.Idx) :
    Ideal.Run.W6 (F := Ideal) m X c main_v5 j
      = (ece (fun r => confR (rowOf (n := 1000000) (argX m c) r)) (fun r => okR (w r) (argY m c (ix1 r))) : EReal) := by
  obtain ⟨ka, hent, hka⟩ := parts_real hm hX
  refine (congrFun (W6_v5 m c X) j).trans ?_
  have e : shapeCast S1 (extractStridedSlice S1x1 ![0, 0] (Ideal.Run.W5 m X c main_v3 : S1x128.Idx → EReal) slices_S1x128_S1x1_0_0) shapeCasts_S1x1_S1 j
      = (Ideal.Run.W5 m X c main_v3 : S1x128.Idx → EReal) (ix2 0 0) := by
    obtain rfl : j = ix1 0 := by
      funext a; obtain rfl : a = 0 := Subsingleton.elim _ _; exact Subsingleton.elim (α := Fin 1) _ _
    pointwise
  refine e.trans ?_
  refine (congrFun ((Ideal.Run.W5_v3 m X c).trans (result_eq (fun c b => Ideal.Run.W4 m X c b) c)) _).trans ?_
  refine (pay1_real _ (ent (argX m c) ka) (fun t q l => ?_) 0).trans ?_
  · exact (parts_apply (fun c b => Ideal.Run.W4 m X c b) c t q l).trans ((congrFun (Ideal.Run.W4_v2 m X c) _).trans (hent t q l))
  · rw [sum_ent (argX m c) ka (fun r => okR (w r) (argY m c (ix1 r))) fun t s l h => hka t s l h _ (hw _)]

end Cert.Proof.Val
-- ==== Proof.Val.Algebraic.lean ====
module

public import proofs.«01_k».proof.Defs
public import proofs.«01_k».proof.Proof.Val.Pre
public import proofs.«01_k».proof.Proof.Val.Reference
public import proofs.«01_k».proof.Proof.Val.RefValue
public import proofs.«01_k».proof.Proof.Val.KEnd

/-!
The kernel and the reference end with the same result: the calibration error of the rows' confidences and of whether the
rows' predictions are right.
-/

@[expose] public section

set_option maxRecDepth 16384

noncomputable section

namespace Cert.Proof.Val

open Idealize.ShloMosaic Idealize.SL.Sem

/-- The reference's result. -/
theorem reference_value {x : (⟨2, ![1000000, 100]⟩ : Shape).Idx → EReal} {y : (⟨1, ![1000000]⟩ : Shape).Idx → BitVec 32}
    (hm : ∀ r : Fin 1000000, ∃ M : ℝ, top (rowOf x r) = (M : EReal)) (w : Fin 1000000 → BitVec 32)
    (hw : ∀ r, IsFirst (fun j => rowOf x r j = top (rowOf x r)) (w r)) (j : Cert.ReferenceIdeal.S1.Idx) :
    Ref.value (F := Ideal) x y j = (ece (fun r => confR (rowOf x r)) (fun r => okR (w r) (y (ix1 r))) : EReal) := by
  refine value_eq (fun r => ?_) (fun r => ?_) j
  · obtain ⟨M, hM⟩ := hm r
    exact conf_apply hM
  · obtain ⟨M, hM⟩ := hm r
    obtain ⟨w', hw', e⟩ := right_apply hM y
    rw [e, hw'.unique (hw r)]

theorem algebraic : Cert.algebraic_KernelIdeal_ReferenceIdeal_pre_row_max_finite (hPre_row_max_finite := preFacts) := by
  intro m g m' g' hpre hargs
  have hm : ∀ c, ∀ r : Fin 1000000, ∃ M : ℝ, top (rowOf (n := 1000000) (argX m c) r) = (M : EReal) := fun c r => real_top (hpre c) r
  have hfirst : ∀ c, ∀ r : Fin 1000000, ∃ w, IsFirst (fun j => rowOf (n := 1000000) (argX m c) r j = top (rowOf (n := 1000000) (argX m c) r)) w := fun c r => by
    obtain ⟨M, hM⟩ := hm c r
    obtain ⟨w, hw, -⟩ := right_apply hM (argY m c)
    exact ⟨w, hw⟩
  choose w hw using hfirst
  refine ⟨fun c => fun _ => (ece (fun r => confR (rowOf (n := 1000000) (argX m c) r)) (fun r => okR (w c r) (argY m c (ix1 r))) : EReal), ?_, ?_⟩
  · refine θ_run_mono (Ideal.Run.run_main m g) fun r h c => ?_
    obtain ⟨⟨X, hX, e⟩, h'⟩ := h.1 c
    refine ⟨e.trans ?_, h'⟩
    funext j
    exact kernel_value (hm c) hX (w c) (hw c) j
  · refine θ_run_mono (Ref.run_main m' g') fun r h c => ?_
    obtain ⟨e, h'⟩ := h.1 c
    refine ⟨e.trans ?_, h'⟩
    obtain ⟨h0, h1⟩ := hargs c
    rw [h0, h1]
    funext j
    exact reference_value (hm c) (w c) (hw c) j

end Cert.Proof.Val
-- ==== Proof.lean ====
/-
  The claims of this certificate, proved: the three frames from the programs' runs, the named constants' values, and
  the equality of the kernel's and the reference's results.
-/
module

public import proofs.«01_k».proof.Defs
public import proofs.«01_k».proof.Proof.Bits.Run
public import proofs.«01_k».proof.Proof.Ideal.Run
public import proofs.«01_k».proof.Proof.Ref.Value
public import proofs.«01_k».proof.Proof.Val.Algebraic
public import Idealize.ShloMosaic.Adequacy
public import Idealize.ShloMosaic.Init

@[expose] public section

noncomputable section

namespace Cert.Proof

open Idealize.ShloMosaic Idealize.SL.Sem Idealize.ShloMosaic.StableHlo

/-- The kernel's frame, floats as bits. -/
theorem frame_kernel : Cert.quiescent_Kernel := fun m g _ =>
  θ_run_mono (Bits.Run.run_main m g) fun _ h => ⟨fun c => (h.1 c).2, h.2⟩

/-- The idealized kernel's frame. -/
theorem frame_kernelIdeal : Cert.quiescent_KernelIdeal := fun m g _ =>
  θ_run_mono (Ideal.Run.run_main m g) fun _ h => ⟨fun c => (h.1 c).2, h.2⟩

/-- The same under the precondition, which it does not need. -/
theorem frame_kernelIdeal_pre : Cert.quiescent_KernelIdeal_pre_row_max_finite (hPre_row_max_finite := Val.preFacts) := fun m g _ =>
  θ_run_mono (Ideal.Run.run_main m g) fun _ h => ⟨fun c => (h.1 c).2, h.2⟩

/-- The reference's frame. -/
theorem frame_referenceIdeal : Cert.quiescent_ReferenceIdeal := fun m g _ =>
  θ_run_mono (Ref.run_main m g) fun _ h => ⟨fun c => (h.1 c).2, h.2⟩

/-- The same under the precondition, which it does not need. -/
theorem frame_referenceIdeal_pre : Cert.quiescent_ReferenceIdeal_pre_row_max_finite (hPre_row_max_finite := Val.preFacts) := fun m g _ =>
  θ_run_mono (Ref.run_main m g) fun _ h => ⟨fun c => (h.1 c).2, h.2⟩

/-- Each named constant denotes the number that its table gives. -/
theorem preserves : Cert.preserves_Kernel_KernelIdeal := by
  refine ⟨?_, ?_, ?_, ?_, ?_, ?_, ?_, ?_, ?_, ?_, ?_, ?_, ?_, ?_, ?_⟩ <;> exact IdealRules.named_const.statement _ _ _ _ _ rfl

theorem claim : Cert.Claim :=
  ⟨Cert.Kernel.Gen.facts, Cert.KernelIdeal.Gen.facts, Cert.ReferenceIdeal.Gen.facts, Val.preFacts,
    frame_kernel, frame_kernelIdeal, frame_kernelIdeal_pre, frame_referenceIdeal, frame_referenceIdeal_pre, preserves, Val.algebraic⟩

end Cert.Proof

end
